-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "dead" .f32 0xC3200000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v0)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v0) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v18) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v5) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hOutProj : Cert.OutProj.Facts) (hOutProjIdeal : Cert.OutProjIdeal.Facts) (hOutProjReferenceIdeal : Cert.OutProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ preserves_Kernel_KernelIdeal
    ∧ algebraic_KernelIdeal_ReferenceIdeal (hKernelIdeal := hKernelIdeal) (hReferenceIdeal := hReferenceIdeal)
    ∧ preserves_Mlp_MlpIdeal
    ∧ algebraic_MlpIdeal_MlpReferenceIdeal (hMlpIdeal := hMlpIdeal) (hMlpReferenceIdeal := hMlpReferenceIdeal)
    ∧ preserves_OutProj_OutProjIdeal
    ∧ algebraic_OutProjIdeal_OutProjReferenceIdeal (hOutProjIdeal := hOutProjIdeal) (hOutProjReferenceIdeal := hOutProjReferenceIdeal)
-- ==== Kernel.lean ====
abbrev S8x4096x1024 : Shape := ⟨3, ![8, 4096, 1024]⟩
abbrev S1x128x1024 : Shape := ⟨3, ![1, 128, 1024]⟩
abbrev S1x1024 : Shape := ⟨2, ![1, 1024]⟩
abbrev S_ : Shape := ⟨0, ![]⟩
abbrev S1x4096x512 : Shape := ⟨3, ![1, 4096, 512]⟩
abbrev S1x128x512 : Shape := ⟨3, ![1, 128, 512]⟩
abbrev S1x512 : Shape := ⟨2, ![1, 512]⟩
abbrev S256x256 : Shape := ⟨2, ![256, 256]⟩
abbrev S128x128 : Shape := ⟨2, ![128, 128]⟩
abbrev S4x256x128 : Shape := ⟨3, ![4, 256, 128]⟩
abbrev S1x256x128 : Shape := ⟨3, ![1, 256, 128]⟩
abbrev S256x128 : Shape := ⟨2, ![256, 128]⟩
abbrev S256x1 : Shape := ⟨2, ![256, 1]⟩
abbrev S1x128 : Shape := ⟨2, ![1, 128]⟩
abbrev S256 : Shape := ⟨1, ![256]⟩
abbrev S1x4x256x128 : Shape := ⟨4, ![1, 4, 256, 128]⟩
abbrev S1 : Shape := ⟨1, ![1]⟩
abbrev S1x1x1x1 : Shape := ⟨4, ![1, 1, 1, 1]⟩
abbrev S1x128x128 : Shape := ⟨3, ![1, 128, 128]⟩

abbrev nBuf : Space → Nat
  | .hbm => 14
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S1x128x1024, .bf16⟩
  | .hbm, ⟨4, _⟩ => ⟨S1x128x1024, .bf16⟩
  | .hbm, ⟨5, _⟩ => ⟨S1x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4096x1024, .f32⟩
  | .hbm, ⟨11, _⟩ => ⟨S8x4096x1024, .f32⟩
  | .hbm, ⟨12, _⟩ => ⟨S8x4096x1024, .bf16⟩
  | .hbm, ⟨13, _⟩ => ⟨S8x4096x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x512, .bf16⟩
  | .local _ .vmem, ⟨9, _⟩ => ⟨S1x128x512, .bf16⟩
  | .local _ .vmem, ⟨10, _⟩ => ⟨S1x512, .f32⟩
  | .local _ .vmem, ⟨11, _⟩ => ⟨S1x512, .f32⟩
  | .local _ .vmem, ⟨12, _⟩ => ⟨S1x4096x512, .bf16⟩
  | .local _ .vmem, ⟨13, _⟩ => ⟨S1x4096x512, .bf16⟩
  | .local _ .vmem, ⟨14, _⟩ => ⟨S256x256, .bf16⟩
  | .local _ .vmem, ⟨15, _⟩ => ⟨S128x128, .bf16⟩
  | .local _ .vmem, ⟨16, _⟩ => ⟨S4x256x128, .f32⟩
  | .local _ .vmem, ⟨17, _⟩ => ⟨S4x256x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c1_i32 : BitVec 32 := 1#32
  let c15_i32 : BitVec 32 := 15#32
  let v303 : BitVec 32 := Scalar.addi c1_i32 c15_i32
  let c1_i32_174 : BitVec 32 := 1#32
  ⟨c1_i32, v303, c1_i32_174⟩
def k0_mult1 (k0_t1 : Fin k0_t1_loop.trips) : BitVec 32 :=
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  v304
def k0_off1 (k0_t1 : Fin k0_t1_loop.trips) : Fin 3 → Nat :=
  let c0_176 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v306 : Index := Scalar.indexCast v305
  let c0_177 : Index := 0#32
  ![0, v306.toNat, 0]
def k0_off2 (k0_t1 : Fin k0_t1_loop.trips) : Fin 3 → Nat :=
  let c0_178 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v309 : Index := Scalar.indexCast v305
  let c128_179 : Index := 128#32
  ![0, v309.toNat, 128]
def k0_off3 (k0_t1 : Fin k0_t1_loop.trips) : Fin 3 → Nat :=
  let c0_180 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v312 : Index := Scalar.indexCast v305
  let c256_181 : Index := 256#32
  ![0, v312.toNat, 256]
def k0_off4 (k0_t1 : Fin k0_t1_loop.trips) : Fin 3 → Nat :=
  let c0_182 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v315 : Index := Scalar.indexCast v305
  let c384_183 : Index := 384#32
  ![0, v315.toNat, 384]
def k0_mult2 (k0_t1 : Fin k0_t1_loop.trips) : BitVec 32 :=
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let c256_i32_210 : BitVec 32 := 256#32
  let v351 : BitVec 32 := Scalar.subi v305 c256_i32_210
  v351
def k0_off5 (k0_t1 : Fin k0_t1_loop.trips) : Fin 3 → Nat :=
  let c0_211 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let c256_i32_210 : BitVec 32 := 256#32
  let v351 : BitVec 32 := Scalar.subi v305 c256_i32_210
  let v352 : BitVec 32 := v351
  let v353 : Index := Scalar.indexCast v352
  let c0_212 : Index := 0#32
  ![0, v353.toNat, 0]
def k0_off6 (k0_t1 : Fin k0_t1_loop.trips) : Fin 3 → Nat :=
  let c0_213 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let c256_i32_210 : BitVec 32 := 256#32
  let v351 : BitVec 32 := Scalar.subi v305 c256_i32_210
  let v352 : BitVec 32 := v351
  let v356 : Index := Scalar.indexCast v352
  let c128_214 : Index := 128#32
  ![0, v356.toNat, 128]
def k0_off7 (k0_t1 : Fin k0_t1_loop.trips) : Fin 3 → Nat :=
  let c0_215 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let c256_i32_210 : BitVec 32 := 256#32
  let v351 : BitVec 32 := Scalar.subi v305 c256_i32_210
  let v352 : BitVec 32 := v351
  let v359 : Index := Scalar.indexCast v352
  let c256_216 : Index := 256#32
  ![0, v359.toNat, 256]
def k0_off8 (k0_t1 : Fin k0_t1_loop.trips) : Fin 3 → Nat :=
  let c0_217 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let c256_i32_210 : BitVec 32 := 256#32
  let v351 : BitVec 32 := Scalar.subi v305 c256_i32_210
  let v352 : BitVec 32 := v351
  let v362 : Index := Scalar.indexCast v352
  let c384_218 : Index := 384#32
  ![0, v362.toNat, 384]
def k0_mult3 (k0_t1 : Fin k0_t1_loop.trips) (arg14 : BitVec 32) : BitVec 32 :=
  let c1_i32 : BitVec 32 := 1#32
  let c1_i32_174 : BitVec 32 := 1#32
  let arg13 : BitVec 32 := Scf.iv c1_i32 c1_i32_174 k0_t1
  let c1_i32_381 : BitVec 32 := 1#32
  let v733 : BitVec 32 := Scalar.subi arg13 c1_i32_381
  let v734 : BitVec 32 := Scalar.subi v733 arg14
  let c256_i32_382 : BitVec 32 := 256#32
  let v735 : BitVec 32 := Scalar.muli v734 c256_i32_382
  v735

def k0_off9 (k0_t1 : Fin k0_t1_loop.trips) (arg14 : BitVec 32) : Fin 3 → Nat :=
  let c0_383 : Index := 0#32
  let c1_i32 : BitVec 32 := 1#32
  let c1_i32_174 : BitVec 32 := 1#32
  let arg13 : BitVec 32 := Scf.iv c1_i32 c1_i32_174 k0_t1
  let c1_i32_381 : BitVec 32 := 1#32
  let v733 : BitVec 32 := Scalar.subi arg13 c1_i32_381
  let v734 : BitVec 32 := Scalar.subi v733 arg14
  let c256_i32_382 : BitVec 32 := 256#32
  let v735 : BitVec 32 := Scalar.muli v734 c256_i32_382
  let v736 : BitVec 32 := v735
  let v737 : Index := Scalar.indexCast v736
  let c0_384 : Index := 0#32
  ![0, v737.toNat, 0]
def k0_off10 (k0_t1 : Fin k0_t1_loop.trips) (arg14 : BitVec 32) : Fin 3 → Nat :=
  let c0_385 : Index := 0#32
  let c1_i32 : BitVec 32 := 1#32
  let c1_i32_174 : BitVec 32 := 1#32
  let arg13 : BitVec 32 := Scf.iv c1_i32 c1_i32_174 k0_t1
  let c1_i32_381 : BitVec 32 := 1#32
  let v733 : BitVec 32 := Scalar.subi arg13 c1_i32_381
  let v734 : BitVec 32 := Scalar.subi v733 arg14
  let c256_i32_382 : BitVec 32 := 256#32
  let v735 : BitVec 32 := Scalar.muli v734 c256_i32_382
  let v736 : BitVec 32 := v735
  let v740 : Index := Scalar.indexCast v736
  let c128_386 : Index := 128#32
  ![0, v740.toNat, 128]
def k0_off11 (k0_t1 : Fin k0_t1_loop.trips) (arg14 : BitVec 32) : Fin 3 → Nat :=
  let c0_387 : Index := 0#32
  let c1_i32 : BitVec 32 := 1#32
  let c1_i32_174 : BitVec 32 := 1#32
  let arg13 : BitVec 32 := Scf.iv c1_i32 c1_i32_174 k0_t1
  let c1_i32_381 : BitVec 32 := 1#32
  let v733 : BitVec 32 := Scalar.subi arg13 c1_i32_381
  let v734 : BitVec 32 := Scalar.subi v733 arg14
  let c256_i32_382 : BitVec 32 := 256#32
  let v735 : BitVec 32 := Scalar.muli v734 c256_i32_382
  let v736 : BitVec 32 := v735
  let v743 : Index := Scalar.indexCast v736
  let c256_388 : Index := 256#32
  ![0, v743.toNat, 256]
def k0_off12 (k0_t1 : Fin k0_t1_loop.trips) (arg14 : BitVec 32) : Fin 3 → Nat :=
  let c0_389 : Index := 0#32
  let c1_i32 : BitVec 32 := 1#32
  let c1_i32_174 : BitVec 32 := 1#32
  let arg13 : BitVec 32 := Scf.iv c1_i32 c1_i32_174 k0_t1
  let c1_i32_381 : BitVec 32 := 1#32
  let v733 : BitVec 32 := Scalar.subi arg13 c1_i32_381
  let v734 : BitVec 32 := Scalar.subi v733 arg14
  let c256_i32_382 : BitVec 32 := 256#32
  let v735 : BitVec 32 := Scalar.muli v734 c256_i32_382
  let v736 : BitVec 32 := v735
  let v746 : Index := Scalar.indexCast v736
  let c384_390 : Index := 384#32
  ![0, v746.toNat, 384]

def k0_chk1 (k0_t1 : Fin k0_t1_loop.trips) (arg14 : BitVec 32) : Prop :=
  (256 ∣ (k0_mult3 k0_t1 arg14).toNat) ∧
  (∀ a, (k0_off9 k0_t1 arg14) a + S1x256x128.size a ≤ S1x4096x512.size a) ∧
  (∀ a, (k0_off10 k0_t1 arg14) a + S1x256x128.size a ≤ S1x4096x512.size a) ∧
  (∀ a, (k0_off11 k0_t1 arg14) a + S1x256x128.size a ≤ S1x4096x512.size a) ∧
  (∀ a, (k0_off12 k0_t1 arg14) a + S1x256x128.size a ≤ S1x4096x512.size a)
theorem k0_mult3_dvd : ∀ (k0_t1 : Fin k0_t1_loop.trips) (arg14 : BitVec 32) (k0_hw1 : k0_chk1 k0_t1 arg14), 256 ∣ (k0_mult3 k0_t1 arg14).toNat := fun k0_t1 arg14 k0_hw1 => k0_hw1.1
theorem k0_off9_inb : ∀ (k0_t1 : Fin k0_t1_loop.trips) (arg14 : BitVec 32) (k0_hw1 : k0_chk1 k0_t1 arg14), ∀ a, (k0_off9 k0_t1 arg14) a + S1x256x128.size a ≤ S1x4096x512.size a := fun k0_t1 arg14 k0_hw1 => k0_hw1.2.1
theorem k0_off10_inb : ∀ (k0_t1 : Fin k0_t1_loop.trips) (arg14 : BitVec 32) (k0_hw1 : k0_chk1 k0_t1 arg14), ∀ a, (k0_off10 k0_t1 arg14) a + S1x256x128.size a ≤ S1x4096x512.size a := fun k0_t1 arg14 k0_hw1 => k0_hw1.2.2.1
theorem k0_off11_inb : ∀ (k0_t1 : Fin k0_t1_loop.trips) (arg14 : BitVec 32) (k0_hw1 : k0_chk1 k0_t1 arg14), ∀ a, (k0_off11 k0_t1 arg14) a + S1x256x128.size a ≤ S1x4096x512.size a := fun k0_t1 arg14 k0_hw1 => k0_hw1.2.2.2.1
theorem k0_off12_inb : ∀ (k0_t1 : Fin k0_t1_loop.trips) (arg14 : BitVec 32) (k0_hw1 : k0_chk1 k0_t1 arg14), ∀ a, (k0_off12 k0_t1 arg14) a + S1x256x128.size a ≤ S1x4096x512.size a := fun k0_t1 arg14 k0_hw1 => k0_hw1.2.2.2.2

def k0_off13 (k0_t1 : Fin k0_t1_loop.trips) : Fin 3 → Nat :=
  let c0_389 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v750 : Index := Scalar.indexCast v305
  let c0_390 : Index := 0#32
  ![0, v750.toNat, 0]
def k0_off14 (k0_t1 : Fin k0_t1_loop.trips) : Fin 3 → Nat :=
  let c0_397 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v770 : Index := Scalar.indexCast v305
  let c128_398 : Index := 128#32
  ![0, v770.toNat, 128]
def k0_off15 (k0_t1 : Fin k0_t1_loop.trips) : Fin 3 → Nat :=
  let c0_405 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v790 : Index := Scalar.indexCast v305
  let c256_406 : Index := 256#32
  ![0, v790.toNat, 256]
def k0_off16 (k0_t1 : Fin k0_t1_loop.trips) : Fin 3 → Nat :=
  let c0_413 : Index := 0#32
  let c1_i32 : BitVec 32 := 1#32
  let c1_i32_174 : BitVec 32 := 1#32
  let arg13 : BitVec 32 := Scf.iv c1_i32 c1_i32_174 k0_t1
  let c256_i32 : BitVec 32 := 256#32
  let v304 : BitVec 32 := Scalar.muli arg13 c256_i32
  let v305 : BitVec 32 := v304
  let v810 : Index := Scalar.indexCast v305
  let c384_414 : Index := 384#32
  ![0, v810.toNat, 384]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x4096x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "dead" => some ⊥
  | "log2e" => some (((Real.log 2)⁻¹ : ℝ) : EReal)
  | "mask" => some ⊥
  | _ => none
-- ==== ReferenceIdeal.lean ====
abbrev S8x4096x1024 : Shape := ⟨3, ![8, 4096, 1024]⟩
abbrev S1x128x1024 : Shape := ⟨3, ![1, 128, 1024]⟩
abbrev S1x1024 : Shape := ⟨2, ![1, 1024]⟩
abbrev S1x16x1024 : Shape := ⟨3, ![1, 16, 1024]⟩
abbrev S8x16x1024 : Shape := ⟨3, ![8, 16, 1024]⟩
abbrev S8x4112x1024 : Shape := ⟨3, ![8, 4112, 1024]⟩
abbrev S8x4096x8x128 : Shape := ⟨4, ![8, 4096, 8, 128]⟩
abbrev S8x8x4096x128 : Shape := ⟨4, ![8, 8, 4096, 128]⟩
abbrev S8x4112x8x128 : Shape := ⟨4, ![8, 4112, 8, 128]⟩
abbrev S8x8x4112x128 : Shape := ⟨4, ![8, 8, 4112, 128]⟩
abbrev S4096 : Shape := ⟨1, ![4096]⟩
abbrev S_ : Shape := ⟨0, ![]⟩
abbrev S4112 : Shape := ⟨1, ![4112]⟩
abbrev S8x8x4096x4112 : Shape := ⟨4, ![8, 8, 4096, 4112]⟩
abbrev S1x4112 : Shape := ⟨2, ![1, 4112]⟩
abbrev S4096x1 : Shape := ⟨2, ![4096, 1]⟩
abbrev S4096x4112 : Shape := ⟨2, ![4096, 4112]⟩
abbrev S8x4096x8 : Shape := ⟨3, ![8, 4096, 8]⟩
abbrev S8x4096x8x1 : Shape := ⟨4, ![8, 4096, 8, 1]⟩
abbrev S8x128 : Shape := ⟨2, ![8, 128]⟩
abbrev S1x1x8x128 : Shape := ⟨4, ![1, 1, 8, 128]⟩

abbrev nBuf : Space → Nat
  | .hbm => 104
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .bf16⟩
  | .hbm, ⟨2, _⟩ => ⟨S8x4096x1024, .bf16⟩
  | .hbm, ⟨3, _⟩ => ⟨S1x128x1024, .bf16⟩
  | .hbm, ⟨4, _⟩ => ⟨S1x128x1024, .bf16⟩
  | .hbm, ⟨5, _⟩ => ⟨S1x1024, .f32⟩
  | .hbm, ⟨6, _⟩ => ⟨S1x16x1024, .bf16⟩
  | .hbm, ⟨7, _⟩ => ⟨S8x16x1024, .bf16⟩
  | .hbm, ⟨8, _⟩ => ⟨S8x4112x1024, .bf16⟩
  | .hbm, ⟨9, _⟩ => ⟨S1x16x1024, .bf16⟩
  | .hbm, ⟨10, _⟩ => ⟨S8x16x1024, .bf16⟩
  | .hbm, ⟨11, _⟩ => ⟨S8x4112x1024, .bf16⟩
  | .hbm, ⟨12, _⟩ => ⟨S8x4096x8x128, .f32⟩
  | .hbm, ⟨13, _⟩ => ⟨S8x8x4096x128, .f32⟩
  | .hbm, ⟨14, _⟩ => ⟨S8x4112x1024, .f32⟩
  | .hbm, ⟨15, _⟩ => ⟨S8x4112x8x128, .f32⟩
  | .hbm, ⟨16, _⟩ => ⟨S8x8x4112x128, .f32⟩
  | .hbm, ⟨17, _⟩ => ⟨S8x4112x1024, .f32⟩
  | .hbm, ⟨18, _⟩ => ⟨S8x4112x8x128, .f32⟩
  | .hbm, ⟨19, _⟩ => ⟨S8x8x4112x128, .f32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i32⟩
  | .hbm, ⟨24, _⟩ => ⟨S4112, .i32⟩
  | .hbm, ⟨25, _⟩ => ⟨S8x8x4096x4112, .f32⟩
  | .hbm, ⟨26, _⟩ => ⟨S_, .f32⟩
  | .hbm, ⟨27, _⟩ => ⟨S8x8x4096x4112, .f32⟩
  | .hbm, ⟨28, _⟩ => ⟨S8x8x4096x4112, .f32⟩
  | .hbm, ⟨29, _⟩ => ⟨S1x4112, .i32⟩
  | .hbm, ⟨30, _⟩ => ⟨S4096x1, .i32⟩
  | .hbm, ⟨31, _⟩ => ⟨S4096x4112, .i32⟩
  | .hbm, ⟨32, _⟩ => ⟨S4096x4112, .i32⟩
  | .hbm, ⟨33, _⟩ => ⟨S4096x4112, .i1⟩
  | .hbm, ⟨34, _⟩ => ⟨S8x8x4096x4112, .f32⟩
  | .hbm, ⟨35, _⟩ => ⟨S8x8x4096x4112, .f32⟩
  | .hbm, ⟨36, _⟩ => ⟨S_, .f32⟩
  | .hbm, ⟨37, _⟩ => ⟨S8x8x4096x4112, .f32⟩
  | .hbm, ⟨38, _⟩ => ⟨S8x8x4096x4112, .f32⟩
  | .hbm, ⟨39, _⟩ => ⟨S8x8x4096x4112, .f32⟩
  | .hbm, ⟨40, _⟩ => ⟨S8x8x4096x4112, .f32⟩
  | .hbm, ⟨41, _⟩ => ⟨S8x8x4096x4112, .i1⟩
  | .hbm, ⟨42, _⟩ => ⟨S8x8x4096x4112, .f32⟩
  | .hbm, ⟨43, _⟩ => ⟨S8x8x4096x4112, .f32⟩
  | .hbm, ⟨44, _⟩ => ⟨S8x8x4096x4112, .f32⟩
  | .hbm, ⟨45, _⟩ => ⟨S8x8x4096x4112, .f32⟩
  | .hbm, ⟨46, _⟩ => ⟨S8x8x4096x4112, .f32⟩
  | .hbm, ⟨47, _⟩ => ⟨S8x8x4096x4112, .f32⟩
  | .hbm, ⟨48, _⟩ => ⟨S8x8x4096x4112, .f32⟩
  | .hbm, ⟨49, _⟩ => ⟨S8x8x4096x4112, .f32⟩
  | .hbm, ⟨50, _⟩ => ⟨S8x8x4096x4112, .f32⟩
  | .hbm, ⟨51, _⟩ => ⟨S_, .f32⟩
  | .hbm, ⟨52, _⟩ => ⟨S_, .f32⟩
  | .hbm, ⟨53, _⟩ => ⟨S8x8x4096x4112, .i1⟩
  | .hbm, ⟨54, _⟩ => ⟨S8x8x4096x4112, .f32⟩
  | .hbm, ⟨55, _⟩ => ⟨S8x8x4096x4112, .f32⟩
  | .hbm, ⟨56, _⟩ => ⟨S_, .f32⟩
  | .hbm, ⟨57, _⟩ => ⟨S_, .f32⟩
  | .hbm, ⟨58, _⟩ => ⟨S8x8x4096x4112, .f32⟩
  | .hbm, ⟨59, _⟩ => ⟨S8x8x4096x4112, .f32⟩
  | .hbm, ⟨60, _⟩ => ⟨S8x8x4096x4112, .f32⟩
  | .hbm, ⟨61, _⟩ => ⟨S_, .f32⟩
  | .hbm, ⟨62, _⟩ => ⟨S8x8x4096x4112, .f32⟩
  | .hbm, ⟨63, _⟩ => ⟨S8x8x4096x4112, .f32⟩
  | .hbm, ⟨64, _⟩ => ⟨S8x8x4096x4112, .f32⟩
  | .hbm, ⟨65, _⟩ => ⟨S8x8x4096x4112, .f32⟩
  | .hbm, ⟨66, _⟩ => ⟨S8x8x4096x4112, .i1⟩
  | .hbm, ⟨67, _⟩ => ⟨S8x8x4096x4112, .f32⟩
  | .hbm, ⟨68, _⟩ => ⟨S8x8x4096x4112, .f32⟩
  | .hbm, ⟨69, _⟩ => ⟨S8x8x4096x4112, .f32⟩
  | .hbm, ⟨70, _⟩ => ⟨S8x8x4096x4112, .f32⟩
  | .hbm, ⟨71, _⟩ => ⟨S8x8x4096x4112, .f32⟩
  | .hbm, ⟨72, _⟩ => ⟨S8x8x4096x4112, .f32⟩
  | .hbm, ⟨73, _⟩ => ⟨S8x8x4096x4112, .f32⟩
  | .hbm, ⟨74, _⟩ => ⟨S8x8x4096x4112, .f32⟩
  | .hbm, ⟨75, _⟩ => ⟨S8x8x4096x4112, .f32⟩
  | .hbm, ⟨76, _⟩ => ⟨S8x8x4096x4112, .f32⟩
  | .hbm, ⟨77, _⟩ => ⟨S8x8x4096x4112, .f32⟩
  | .hbm, ⟨78, _⟩ => ⟨S_, .f32⟩
  | .hbm, ⟨79, _⟩ => ⟨S_, .f32⟩
  | .hbm, ⟨80, _⟩ => ⟨S8x8x4096x4112, .i1⟩
  | .hbm, ⟨81, _⟩ => ⟨S8x8x4096x4112, .f32⟩
  | .hbm, ⟨82, _⟩ => ⟨S8x8x4096x4112, .f32⟩
  | .hbm, ⟨83, _⟩ => ⟨S8x8x4096x128, .f32⟩
  | .hbm, ⟨84, _⟩ => ⟨S8x4096x8x128, .f32⟩
  | .hbm, ⟨85, _⟩ => ⟨S8x4096x8x128, .f32⟩
  | .hbm, ⟨86, _⟩ => ⟨S_, .f32⟩
  | .hbm, ⟨87, _⟩ => ⟨S8x4096x8, .f32⟩
  | .hbm, ⟨88, _⟩ => ⟨S8x4096x8x1, .f32⟩
  | .hbm, ⟨89, _⟩ => ⟨S_, .f32⟩
  | .hbm, ⟨90, _⟩ => ⟨S8x4096x8x1, .f32⟩
  | .hbm, ⟨91, _⟩ => ⟨S8x4096x8x1, .f32⟩
  | .hbm, ⟨92, _⟩ => ⟨S_, .f32⟩
  | .hbm, ⟨93, _⟩ => ⟨S8x4096x8x1, .f32⟩
  | .hbm, ⟨94, _⟩ => ⟨S8x4096x8x1, .f32⟩
  | .hbm, ⟨95, _⟩ => ⟨S8x4096x8x1, .f32⟩
  | .hbm, ⟨96, _⟩ => ⟨S8x4096x8x128, .f32⟩
  | .hbm, ⟨97, _⟩ => ⟨S8x4096x8x128, .f32⟩
  | .hbm, ⟨98, _⟩ => ⟨S8x128, .f32⟩
  | .hbm, ⟨99, _⟩ => ⟨S1x1x8x128, .f32⟩
  | .hbm, ⟨100, _⟩ => ⟨S8x4096x8x128, .f32⟩
  | .hbm, ⟨101, _⟩ => ⟨S8x4096x8x128, .f32⟩
  | .hbm, ⟨102, _⟩ => ⟨S8x4096x1024, .f32⟩
  | .hbm, ⟨103, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v27 : Ref sig .tc := ⟨.hbm, 50, rfl⟩
abbrev main_cst_0 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v28 : Ref sig .tc := ⟨.hbm, 55, rfl⟩
abbrev main_call2_cst : Ref sig .tc := ⟨.hbm, 56, rfl⟩
abbrev main_call2_v0 : Ref sig .tc := ⟨.hbm, 57, rfl⟩
abbrev main_v29 : Ref sig .tc := ⟨.hbm, 58, rfl⟩
abbrev main_v30 : Ref sig .tc := ⟨.hbm, 59, rfl⟩
abbrev main_call3_v0 : Ref sig .tc := ⟨.hbm, 60, rfl⟩
abbrev main_call3_call0_cst : Ref sig .tc := ⟨.hbm, 61, rfl⟩
abbrev main_call3_call0_v0 : Ref sig .tc := ⟨.hbm, 62, rfl⟩
abbrev main_call3_call0_v1 : Ref sig .tc := ⟨.hbm, 63, rfl⟩
abbrev main_call3_call0_v2 : Ref sig .tc := ⟨.hbm, 64, rfl⟩
abbrev main_call3_call0_v3 : Ref sig .tc := ⟨.hbm, 65, rfl⟩
abbrev main_call3_call0_v4 : Ref sig .tc := ⟨.hbm, 66, rfl⟩
abbrev main_call3_call0_v5 : Ref sig .tc := ⟨.hbm, 67, rfl⟩
abbrev main_call3_call0_v6 : Ref sig .tc := ⟨.hbm, 68, rfl⟩
abbrev main_call3_call0_v7 : Ref sig .tc := ⟨.hbm, 69, rfl⟩
abbrev main_call3_call0_v8 : Ref sig .tc := ⟨.hbm, 70, rfl⟩
abbrev main_call3_call0_v9 : Ref sig .tc := ⟨.hbm, 71, rfl⟩
abbrev main_call3_call0_v10 : Ref sig .tc := ⟨.hbm, 72, rfl⟩
abbrev main_call3_call0_v11 : Ref sig .tc := ⟨.hbm, 73, rfl⟩
abbrev main_call3_v1 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_cst_1 : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_2 : Ref sig .tc := ⟨.hbm, 86, rfl⟩
abbrev main_v38 : Ref sig .tc := ⟨.hbm, 87, rfl⟩
abbrev main_v39 : Ref sig .tc := ⟨.hbm, 88, rfl⟩
abbrev main_cst_3 : Ref sig .tc := ⟨.hbm, 89, rfl⟩
abbrev main_v40 : Ref sig .tc := ⟨.hbm, 90, rfl⟩
abbrev main_v41 : Ref sig .tc := ⟨.hbm, 91, rfl⟩
abbrev main_cst_4 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩

abbrev nD : Nat := 1
abbrev τ : Topo := Topo.v7x

variable {F : FTy → Type} [FloatOps F]
-- ==== Mlp.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S1024x2048 : Shape := ⟨2, ![1024, 2048]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S32768x2048 : Shape := ⟨2, ![32768, 2048]⟩
abbrev S1x2048 : Shape := ⟨2, ![1, 2048]⟩
abbrev S2048x8192 : Shape := ⟨2, ![2048, 8192]⟩
abbrev S8192x2048 : Shape := ⟨2, ![8192, 2048]⟩
abbrev S_ : Shape := ⟨0, ![]⟩
abbrev S32768 : Shape := ⟨1, ![32768]⟩
abbrev S32768x1 : Shape := ⟨2, ![32768, 1]⟩
abbrev S32768x8192 : Shape := ⟨2, ![32768, 8192]⟩

abbrev nBuf : Space → Nat
  | .hbm => 28
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S2048x8192, .bf16⟩
  | .hbm, ⟨3, _⟩ => ⟨S8192x2048, .bf16⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S2048x8192, .f32⟩
  | .hbm, ⟨20, _⟩ => ⟨S32768x8192, .f32⟩
  | .hbm, ⟨21, _⟩ => ⟨S_, .f32⟩
  | .hbm, ⟨22, _⟩ => ⟨S32768x8192, .f32⟩
  | .hbm, ⟨23, _⟩ => ⟨S32768x8192, .f32⟩
  | .hbm, ⟨24, _⟩ => ⟨S32768x8192, .f32⟩
  | .hbm, ⟨25, _⟩ => ⟨S8192x2048, .f32⟩
  | .hbm, ⟨26, _⟩ => ⟨S32768x2048, .f32⟩
  | .hbm, ⟨27, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== OutProj.lean ====
abbrev S32768x2048 : Shape := ⟨2, ![32768, 2048]⟩
abbrev S32768x1024 : Shape := ⟨2, ![32768, 1024]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 5
  | .vmem => 9
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .bf16⟩
  | .hbm, ⟨4, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutProjReferenceIdeal.lean ====
abbrev S32768x2048 : Shape := ⟨2, ![32768, 2048]⟩
abbrev S32768x1024 : Shape := ⟨2, ![32768, 1024]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .bf16⟩
  | .hbm, ⟨2, _⟩ => ⟨S32768x1024, .bf16⟩
  | .hbm, ⟨3, _⟩ => ⟨S2048x2048, .bf16⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S2048x2048, .f32⟩
  | .hbm, ⟨8, _⟩ => ⟨S32768x2048, .f32⟩
  | .hbm, ⟨9, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.PI.Vocab.lean ====
/-
  The values the attention kernel computes, head by head and block by block, as functions of the blocks it
  loads. Every definition is over an arbitrary reading of the floats.

  A score block `z` is 256 queries against a block of keys. `nlOf z` is the base-2 softplus of the scores: the
  stick that each key leaves, negated. `csOf` sums it over the keys from each one to the end of the block.
  `rNext` carries the sum of the whole block to the next, older one. `avOf` adds up the weighted values.
-/
module

public import proofs.«01_k».proof.Proof.Gen.KernelIdeal.Skeleton

@[expose] public section

set_option synthInstance.maxSize 4096

noncomputable section

namespace Cert.KernelIdeal.Att

open Idealize.ShloMosaic Idealize.SL.Sem
open Cert.KernelIdeal Cert.KernelIdeal.Gen

variable {F : FTy → Type} [FloatOps F] [Named F]

/-- The constants of the kernel: the base-2 logarithm of e, the score of a masked key, and the running sum at which a
    block of queries counts as finished. -/
abbrev cLog2e : F .f32 := Named.named κ "log2e" 0x3FB8AA3B#32
abbrev cMask : F .f32 := Named.named κ "mask" 0xF149F2CA#32
abbrev cDead : F .f32 := Named.named κ "dead" 0xC3200000#32

/-- A block of 256 tokens of one head, without and with its leading unit axis. -/
def flat (x : Vec F S1x256x128 .bf16) : FVec F S256x128 .bf16 := shapeCast S256x128 x shapeCasts_S1x256x128_S256x128
def flatF (x : Vec F S1x256x128 .f32) : FVec F S256x128 .f32 := shapeCast S256x128 x shapeCasts_S1x256x128_S256x128
def lift (x : FVec F S256x128 .f32) : FVec F S1x256x128 .f32 := shapeCast S1x256x128 x shapeCasts_S256x128_S1x256x128
def flatC (x : Vec F S1x128x128 .bf16) : FVec F S128x128 .bf16 := shapeCast S128x128 x shapeCasts_S1x128x128_S128x128

/-- The matrix whose product with a row sums the row from each column to the end, negated: −1 on and below the diagonal. -/
def tri : FVec F S256x256 .bf16 := k0_pay172
def triC : FVec F S128x128 .bf16 := k0_pay173
/-- The keys before the query, within the query's own block. -/
def before : IVec S256x256 1 := k0_pay174
/-- The keys of the meta tokens, after the padding. -/
def metaKeys : IVec S256x128 1 := k0_pay14

/-! ## Against a block of 256 keys -/

/-- The scores. -/
def zOf (q : FVec F S256x128 .bf16) (k : Vec F S1x256x128 .bf16) : FVec F S256x256 .f32 :=
  matmul dot_S256x128_S256x128_S256x256_1_1_0_0_n_n none q (flat k) (constant S256x256 .f32 0x00000000#32)
/-- The base-2 softplus of the scores. -/
def nlOf (z : FVec F S256x256 .f32) : FVec F S256x256 .f32 :=
  addf (maximumf z (broadcast S256x256 (Scalar.ofBits .f32 0x00000000#32)))
    (mulf (log (addf (broadcast S256x256 (Scalar.ofBits .f32 0x3F800000#32))
      (exp2 (subf (broadcast S256x256 (Scalar.ofBits .f32 0x00000000#32)) (absf z)))))
      (broadcast S256x256 cLog2e))
/-- Keys outside the mask leave the whole stick, -/
def nlMask (b : IVec S256x256 1) (x : FVec F S256x256 .f32) : FVec F S256x256 .f32 :=
  select b x (broadcast S256x256 (Scalar.ofBits .f32 0x00000000#32))
/-- and take none of it. -/
def tMask (b : IVec S256x256 1) (x : FVec F S256x256 .f32) : FVec F S256x256 .f32 := select b x (broadcast S256x256 cMask)
/-- The sums from each key to the end of the block. -/
def csOf (x : FVec F S256x256 .f32) (uu : Vec F S256x256 .bf16) : FVec F S256x256 .f32 :=
  matmul dot_S256x256_S256x256_S256x256_1_0_0_1_n_n none (truncf .bf16 x bitsLt_bf16_f32) uu (constant S256x256 .f32 0x00000000#32)
/-- The base-2 logarithm of the weights. -/
def tOf (z cs : FVec F S256x256 .f32) (r : FVec F S256x128 .f32) : FVec F S256x256 .f32 :=
  addf (addf z cs) (concatenate S256x256 1 [⟨S256x128, r⟩, ⟨S256x128, r⟩] concatenates_S256x128_S256x128_S256x256_d1)
/-- The weighted values. -/
def avOf (t : FVec F S256x256 .f32) (v : Vec F S1x256x128 .bf16) : FVec F S256x128 .f32 :=
  matmul dot_S256x256_S256x128_S256x128_1_0_0_1_n_n none (truncf .bf16 (exp2 t) bitsLt_bf16_f32) (flat v) (constant S256x128 .f32 0x00000000#32)
/-- The running sum past the block. -/
def rNext (r : FVec F S256x128 .f32) (cs : FVec F S256x256 .f32) : FVec F S256x128 .f32 :=
  addf r (broadcastTo S256x128 (shapeCast S256x1 (extractStridedSlice S256x1 ![0, 0] cs slices_S256x256_o0_0_S256x1) shapeCasts_S256x1_S256x1) broadcasts_S256x1_S256x128)

/-! ## Against the block of the meta tokens' keys, padded to 128 -/

def zC (q : FVec F S256x128 .bf16) (k : Vec F S1x128x128 .bf16) : FVec F S256x128 .f32 :=
  matmul dot_S256x128_S128x128_S256x128_1_1_0_0_n_n none q (flatC k) (constant S256x128 .f32 0x00000000#32)
def nlC (z : FVec F S256x128 .f32) : FVec F S256x128 .f32 :=
  select metaKeys (addf (maximumf z (broadcast S256x128 (Scalar.ofBits .f32 0x00000000#32)))
    (mulf (log (addf (broadcast S256x128 (Scalar.ofBits .f32 0x3F800000#32))
      (exp2 (subf (broadcast S256x128 (Scalar.ofBits .f32 0x00000000#32)) (absf z)))))
      (broadcast S256x128 cLog2e))) (broadcast S256x128 (Scalar.ofBits .f32 0x00000000#32))
def csC (x : FVec F S256x128 .f32) (uc : Vec F S128x128 .bf16) : FVec F S256x128 .f32 :=
  matmul dot_S256x128_S128x128_S256x128_1_0_0_1_n_n none (truncf .bf16 x bitsLt_bf16_f32) uc (constant S256x128 .f32 0x00000000#32)
def tC (z cs r : FVec F S256x128 .f32) : FVec F S256x128 .f32 :=
  select metaKeys (addf (addf z cs) r) (broadcast S256x128 cMask)
def avC (t : FVec F S256x128 .f32) (v : Vec F S1x128x128 .bf16) : FVec F S256x128 .f32 :=
  matmul dot_S256x128_S128x128_S256x128_1_0_0_1_n_n none (truncf .bf16 (exp2 t) bitsLt_bf16_f32) (flatC v) (constant S256x128 .f32 0x00000000#32)
def rNextC (r cs : FVec F S256x128 .f32) : FVec F S256x128 .f32 :=
  addf r (broadcastTo S256x128 (shapeCast S256x1 (extractStridedSlice S256x1 ![0, 0] cs slices_S256x128_o0_0_S256x1) shapeCasts_S256x1_S256x1) broadcasts_S256x1_S256x128)

/-! ## The result of a head, and whether any query is still unfinished -/

/-- The weighted values normalised to unit mean square and scaled by the head's gains, stored narrow. -/
def outOf (x : Vec F S1x256x128 .f32) (g : FVec F S1x128 .f32) : FVec F S1x256x128 .bf16 :=
  shapeCast S1x256x128 (truncf .bf16 (mulf (mulf (flatF x)
    (broadcastTo S256x128 (rsqrt (addf (divf (shapeCast S256x1 (multiReduction .add [1] S256 (mulf (flatF x) (flatF x)) 0x00000000#32 reduces_S256x128_S256 (.inl rfl) rfl) shapeCasts_S256_S256x1)
      (broadcast S256x1 (Scalar.ofBits .f32 0x43000000#32))) (broadcast S256x1 (Scalar.ofBits .f32 0x358637BD#32)))) broadcasts_S256x1_S256x128))
    (broadcastTo S256x128 g broadcasts_S1x128_S256x128)) bitsLt_bf16_f32) shapeCasts_S256x128_S1x256x128
def gain0 (g : Vec F S1x512 .f32) : FVec F S1x128 .f32 := extractStridedSlice S1x128 ![0, 0] g slices_S1x512_o0_0_S1x128
def gain1 (g : Vec F S1x512 .f32) : FVec F S1x128 .f32 := extractStridedSlice S1x128 ![0, 128] g slices_S1x512_o0_128_S1x128
def gain2 (g : Vec F S1x512 .f32) : FVec F S1x128 .f32 := extractStridedSlice S1x128 ![0, 256] g slices_S1x512_o0_256_S1x128
def gain3 (g : Vec F S1x512 .f32) : FVec F S1x128 .f32 := extractStridedSlice S1x128 ![0, 384] g slices_S1x512_o0_384_S1x128
/-- The largest running sum is above the threshold. -/
def live (r : Vec F S4x256x128 .f32) : BitVec 1 := Scalar.cmpf .ogt (k0_pay2 r) cDead
/-- The zero state. -/
def zero4 : FVec F S4x256x128 .f32 := k0_pay181

/-! ## One head against one block of keys: what is added to the weighted values, and the next running sum -/

/-- Against a block whose keys all lie before the queries, from the running sum `r`. -/
def dAcc (q : FVec F S256x128 .bf16) (k v : Vec F S1x256x128 .bf16) (uu : Vec F S256x256 .bf16) (r : FVec F S256x128 .f32) : FVec F S256x128 .f32 :=
  avOf (tOf (zOf q k) (csOf (nlOf (zOf q k)) uu) r) v
def dR (q : FVec F S256x128 .bf16) (k : Vec F S1x256x128 .bf16) (uu : Vec F S256x256 .bf16) (r : FVec F S256x128 .f32) : FVec F S256x128 .f32 :=
  rNext r (csOf (nlOf (zOf q k)) uu)
/-- Against the queries' own block. -/
def oAcc (b : IVec S256x256 1) (q : FVec F S256x128 .bf16) (k v : Vec F S1x256x128 .bf16) (uu : Vec F S256x256 .bf16) (r : FVec F S256x128 .f32) : FVec F S256x128 .f32 :=
  avOf (tMask b (tOf (zOf q k) (csOf (nlMask b (nlOf (zOf q k))) uu) r)) v
def oR (b : IVec S256x256 1) (q : FVec F S256x128 .bf16) (k : Vec F S1x256x128 .bf16) (uu : Vec F S256x256 .bf16) (r : FVec F S256x128 .f32) : FVec F S256x128 .f32 :=
  rNext r (csOf (nlMask b (nlOf (zOf q k))) uu)
/-- Against the meta tokens' block. -/
def cAcc (q : FVec F S256x128 .bf16) (k v : Vec F S1x128x128 .bf16) (uc : Vec F S128x128 .bf16) (r : FVec F S256x128 .f32) : FVec F S256x128 .f32 :=
  avC (tC (zC q k) (csC (nlC (zC q k)) uc) r) v
def cR (q : FVec F S256x128 .bf16) (k : Vec F S1x128x128 .bf16) (uc : Vec F S128x128 .bf16) (r : FVec F S256x128 .f32) : FVec F S256x128 .f32 :=
  rNextC r (csC (nlC (zC q k)) uc)
/-- The weighted values grown by `x`. -/
def grow (a : Vec F S1x256x128 .f32) (x : FVec F S256x128 .f32) : FVec F S1x256x128 .f32 := lift (addf (flatF a) x)

end Cert.KernelIdeal.Att
-- ==== Proof.PI.Prog.lean ====
/-
  The attention kernel as a program of a few steps used over and over: a sweep of the four heads against one block of
  keys, a sweep against two, a sweep against the meta tokens, and the writing of a block of the result. Each printed
  function is one of these programs over the memory it is handed.
-/
module

public import proofs.«01_k».proof.Proof.PI.Vocab
public meta import Idealize.ShloMosaic.Lib.Tactic
public import Idealize.ShloMosaic.Lib.Tactic

@[expose] public section

set_option synthInstance.maxSize 4096

noncomputable section

namespace Cert.KernelIdeal.Att

open Idealize.ShloMosaic Idealize.SL.Sem
open Cert.KernelIdeal Cert.KernelIdeal.Gen

variable {F : FTy → Type} [FloatOps F] [Named F]

/-- A program of the kernel's core. -/
abbrev KProg (F : FTy → Type) [FloatOps F] [Named F] (α : Type) := Prog (TpuEff nD τ sig (Elt F) (Λ₀ F) .tc) α

/-- The tokens' blocks, the meta tokens' blocks and the heads' states lie inside their buffers. -/
abbrev InB (o : Fin 3 → ℕ) : Prop := ∀ a, o a + S1x256x128.size a ≤ S1x4096x512.size a
abbrev InC (o : Fin 3 → ℕ) : Prop := ∀ a, o a + S1x128x128.size a ≤ S1x128x512.size a
abbrev InS (o : Fin 3 → ℕ) : Prop := ∀ a, o a + S1x256x128.size a ≤ S4x256x128.size a

/-- One load, or store, of each kind of buffer. -/
def ldB (m : Memref sig .tc .vmem S1x4096x512 .bf16) (o : Fin 3 → ℕ) (h : InB o) : KProg F (Vec F S1x256x128 .bf16) :=
  Prog.lift (.load m (Rect.unit (s := S1x4096x512) o S1x256x128.size h).toLoadRect (View.loadsAt_vmem h_S1x256x128))
def stB (m : Memref sig .tc .vmem S1x4096x512 .bf16) (o : Fin 3 → ℕ) (h : InB o)
    (hs : (m.access (Rect.unit (s := S1x4096x512) o S1x256x128.size h)).Stores Finset.univ) (w : FVec F S1x256x128 .bf16) : KProg F PUnit :=
  Prog.lift (.store m (Rect.unit (s := S1x4096x512) o S1x256x128.size h) w Finset.univ hs (.inl rfl))
def ldC (m : Memref sig .tc .vmem S1x128x512 .bf16) (o : Fin 3 → ℕ) (h : InC o) : KProg F (Vec F S1x128x128 .bf16) :=
  Prog.lift (.load m (Rect.unit (s := S1x128x512) o S1x128x128.size h).toLoadRect (View.loadsAt_vmem h_S1x128x128))
def ldS (m : Memref sig .tc .vmem S4x256x128 .f32) (o : Fin 3 → ℕ) (h : InS o) : KProg F (Vec F S1x256x128 .f32) :=
  Prog.lift (.load m (Rect.unit (s := S4x256x128) o S1x256x128.size h).toLoadRect (View.loadsAt_vmem h_S1x256x128))
def stS (m : Memref sig .tc .vmem S4x256x128 .f32) (o : Fin 3 → ℕ) (h : InS o) (w : FVec F S1x256x128 .f32) : KProg F PUnit :=
  Prog.lift (.store m (Rect.unit (s := S4x256x128) o S1x256x128.size h) w Finset.univ (View.stores_vmem_bits_univ h_S1x256x128 rfl) (.inl rfl))
def ldS4 (m : Memref sig .tc .vmem S4x256x128 .f32) : KProg F (Vec F S4x256x128 .f32) :=
  Prog.lift (.load m (Rect.unit (s := S4x256x128) ![0, 0, 0] S4x256x128.size inb_S4x256x128_S4x256x128_0_0_0).toLoadRect (View.loadsAt_vmem h_S4x256x128))
def stS4 (m : Memref sig .tc .vmem S4x256x128 .f32) (w : FVec F S4x256x128 .f32) : KProg F PUnit :=
  Prog.lift (.store m (Rect.unit (s := S4x256x128) ![0, 0, 0] S4x256x128.size inb_S4x256x128_S4x256x128_0_0_0) w Finset.univ (View.stores_vmem_bits_univ h_S4x256x128 rfl) (.inl rfl))
def ldU (m : Memref sig .tc .vmem S256x256 .bf16) : KProg F (Vec F S256x256 .bf16) :=
  Prog.lift (.load m (Rect.unit (s := S256x256) ![0, 0] S256x256.size inb_S256x256_S256x256_0_0).toLoadRect (View.loadsAt_vmem h_S256x256))
def stU (m : Memref sig .tc .vmem S256x256 .bf16) (hm : m.IsWhole) (w : FVec F S256x256 .bf16) : KProg F PUnit :=
  Prog.lift (.store m (Rect.unit (s := S256x256) ![0, 0] S256x256.size inb_S256x256_S256x256_0_0) w Finset.univ (View.stores_vmem h_S256x256 (hm.storeExact_slice rfl _ packedbf16_S256x256_S256x256_0_0) (fun _ => rfl)) (.inl rfl))
def ldUC (m : Memref sig .tc .vmem S128x128 .bf16) : KProg F (Vec F S128x128 .bf16) :=
  Prog.lift (.load m (Rect.unit (s := S128x128) ![0, 0] S128x128.size inb_S128x128_S128x128_0_0).toLoadRect (View.loadsAt_vmem h_S128x128))
def stUC (m : Memref sig .tc .vmem S128x128 .bf16) (hm : m.IsWhole) (w : FVec F S128x128 .bf16) : KProg F PUnit :=
  Prog.lift (.store m (Rect.unit (s := S128x128) ![0, 0] S128x128.size inb_S128x128_S128x128_0_0) w Finset.univ (View.stores_vmem h_S128x128 (hm.storeExact_slice rfl _ packedbf16_S128x128_S128x128_0_0) (fun _ => rfl)) (.inl rfl))
def ldG (m : Memref sig .tc .vmem S1x512 .f32) : KProg F (Vec F S1x512 .f32) :=
  Prog.lift (.load m (Rect.unit (s := S1x512) ![0, 0] S1x512.size inb_S1x512_S1x512_0_0).toLoadRect (View.loadsAt_vmem h_S1x512))

/-- One head's update: its running sum becomes `rn`, its weighted values grow by `x`. -/
def upd (acc r : Memref sig .tc .vmem S4x256x128 .f32) (o : Fin 3 → ℕ) (h : InS o) (rn x : FVec F S256x128 .f32) : KProg F PUnit := do
  let _ ← ldS (F := F) r o h
  stS r o h (lift rn)
  let a ← ldS (F := F) acc o h
  let _ ← ldS (F := F) acc o h
  stS acc o h (grow a x)

/-- The four heads' queries. -/
def heads (q : Memref sig .tc .vmem S1x4096x512 .bf16) (o0 o1 o2 o3 : Fin 3 → ℕ) (h0 : InB o0) (h1 : InB o1) (h2 : InB o2) (h3 : InB o3)
    (acc r : Memref sig .tc .vmem S4x256x128 .f32) {α : Type}
    (body : FVec F S256x128 .bf16 → FVec F S256x128 .bf16 → FVec F S256x128 .bf16 → FVec F S256x128 .bf16 → KProg F α) : KProg F α := do
  let q0 ← ldB (F := F) q o0 h0
  let q1 ← ldB (F := F) q o1 h1
  let q2 ← ldB (F := F) q o2 h2
  let q3 ← ldB (F := F) q o3 h3
  let _ ← ldS4 (F := F) acc
  stS4 acc (zero4 (F := F))
  let _ ← ldS4 (F := F) r
  stS4 r (zero4 (F := F))
  body (flat q0) (flat q1) (flat q2) (flat q3)

/-- A sweep of the four heads against one block of keys; `fa` and `fr` say what a head adds to its weighted values and what
    its running sum becomes. -/
def sweep1 (fa : FVec F S256x128 .bf16 → Vec F S1x256x128 .bf16 → Vec F S1x256x128 .bf16 → Vec F S256x256 .bf16 → FVec F S256x128 .f32 → FVec F S256x128 .f32)
    (fr : FVec F S256x128 .bf16 → Vec F S1x256x128 .bf16 → Vec F S256x256 .bf16 → FVec F S256x128 .f32 → FVec F S256x128 .f32)
    (k v : Memref sig .tc .vmem S1x4096x512 .bf16) (acc r : Memref sig .tc .vmem S4x256x128 .f32)
    (o0 o1 o2 o3 : Fin 3 → ℕ) (h0 : InB o0) (h1 : InB o1) (h2 : InB o2) (h3 : InB o3)
    (q0 q1 q2 q3 : FVec F S256x128 .bf16) (uu : Vec F S256x256 .bf16) : KProg F PUnit := do
  let k0 ← ldB (F := F) k o0 h0
  let k1 ← ldB (F := F) k o1 h1
  let k2 ← ldB (F := F) k o2 h2
  let k3 ← ldB (F := F) k o3 h3
  let v0 ← ldB (F := F) v o0 h0
  let v1 ← ldB (F := F) v o1 h1
  let v2 ← ldB (F := F) v o2 h2
  let v3 ← ldB (F := F) v o3 h3
  let r0 ← ldS (F := F) r ![0, 0, 0] inb_S4x256x128_S1x256x128_0_0_0
  let r1 ← ldS (F := F) r ![1, 0, 0] inb_S4x256x128_S1x256x128_1_0_0
  let r2 ← ldS (F := F) r ![2, 0, 0] inb_S4x256x128_S1x256x128_2_0_0
  let r3 ← ldS (F := F) r ![3, 0, 0] inb_S4x256x128_S1x256x128_3_0_0
  upd acc r ![0, 0, 0] inb_S4x256x128_S1x256x128_0_0_0 (fr q0 k0 uu (flatF r0)) (fa q0 k0 v0 uu (flatF r0))
  upd acc r ![1, 0, 0] inb_S4x256x128_S1x256x128_1_0_0 (fr q1 k1 uu (flatF r1)) (fa q1 k1 v1 uu (flatF r1))
  upd acc r ![2, 0, 0] inb_S4x256x128_S1x256x128_2_0_0 (fr q2 k2 uu (flatF r2)) (fa q2 k2 v2 uu (flatF r2))
  upd acc r ![3, 0, 0] inb_S4x256x128_S1x256x128_3_0_0 (fr q3 k3 uu (flatF r3)) (fa q3 k3 v3 uu (flatF r3))

/-- A sweep against the queries' own block and the one before it. -/
def sweep2 (b : IVec S256x256 1) (k v : Memref sig .tc .vmem S1x4096x512 .bf16) (acc r : Memref sig .tc .vmem S4x256x128 .f32)
    (o0 o1 o2 o3 : Fin 3 → ℕ) (h0 : InB o0) (h1 : InB o1) (h2 : InB o2) (h3 : InB o3)
    (p0 p1 p2 p3 : Fin 3 → ℕ) (i0 : InB p0) (i1 : InB p1) (i2 : InB p2) (i3 : InB p3)
    (q0 q1 q2 q3 : FVec F S256x128 .bf16) (uu : Vec F S256x256 .bf16) : KProg F PUnit := do
  let k0 ← ldB (F := F) k o0 h0
  let k1 ← ldB (F := F) k o1 h1
  let k2 ← ldB (F := F) k o2 h2
  let k3 ← ldB (F := F) k o3 h3
  let v0 ← ldB (F := F) v o0 h0
  let v1 ← ldB (F := F) v o1 h1
  let v2 ← ldB (F := F) v o2 h2
  let v3 ← ldB (F := F) v o3 h3
  let l0 ← ldB (F := F) k p0 i0
  let l1 ← ldB (F := F) k p1 i1
  let l2 ← ldB (F := F) k p2 i2
  let l3 ← ldB (F := F) k p3 i3
  let w0 ← ldB (F := F) v p0 i0
  let w1 ← ldB (F := F) v p1 i1
  let w2 ← ldB (F := F) v p2 i2
  let w3 ← ldB (F := F) v p3 i3
  let r0 ← ldS (F := F) r ![0, 0, 0] inb_S4x256x128_S1x256x128_0_0_0
  let r1 ← ldS (F := F) r ![1, 0, 0] inb_S4x256x128_S1x256x128_1_0_0
  let r2 ← ldS (F := F) r ![2, 0, 0] inb_S4x256x128_S1x256x128_2_0_0
  let r3 ← ldS (F := F) r ![3, 0, 0] inb_S4x256x128_S1x256x128_3_0_0
  upd acc r ![0, 0, 0] inb_S4x256x128_S1x256x128_0_0_0 (dR q0 l0 uu (oR b q0 k0 uu (flatF r0))) (addf (oAcc b q0 k0 v0 uu (flatF r0)) (dAcc q0 l0 w0 uu (oR b q0 k0 uu (flatF r0))))
  upd acc r ![1, 0, 0] inb_S4x256x128_S1x256x128_1_0_0 (dR q1 l1 uu (oR b q1 k1 uu (flatF r1))) (addf (oAcc b q1 k1 v1 uu (flatF r1)) (dAcc q1 l1 w1 uu (oR b q1 k1 uu (flatF r1))))
  upd acc r ![2, 0, 0] inb_S4x256x128_S1x256x128_2_0_0 (dR q2 l2 uu (oR b q2 k2 uu (flatF r2))) (addf (oAcc b q2 k2 v2 uu (flatF r2)) (dAcc q2 l2 w2 uu (oR b q2 k2 uu (flatF r2))))
  upd acc r ![3, 0, 0] inb_S4x256x128_S1x256x128_3_0_0 (dR q3 l3 uu (oR b q3 k3 uu (flatF r3))) (addf (oAcc b q3 k3 v3 uu (flatF r3)) (dAcc q3 l3 w3 uu (oR b q3 k3 uu (flatF r3))))

/-- A sweep against the meta tokens. -/
def sweepC (k v : Memref sig .tc .vmem S1x128x512 .bf16) (uc : Memref sig .tc .vmem S128x128 .bf16) (acc r : Memref sig .tc .vmem S4x256x128 .f32)
    (q0 q1 q2 q3 : FVec F S256x128 .bf16) : KProg F PUnit := do
  let k0 ← ldC (F := F) k ![0, 0, 0] inb_S1x128x512_S1x128x128_0_0_0
  let k1 ← ldC (F := F) k ![0, 0, 128] inb_S1x128x512_S1x128x128_0_0_128
  let k2 ← ldC (F := F) k ![0, 0, 256] inb_S1x128x512_S1x128x128_0_0_256
  let k3 ← ldC (F := F) k ![0, 0, 384] inb_S1x128x512_S1x128x128_0_0_384
  let v0 ← ldC (F := F) v ![0, 0, 0] inb_S1x128x512_S1x128x128_0_0_0
  let v1 ← ldC (F := F) v ![0, 0, 128] inb_S1x128x512_S1x128x128_0_0_128
  let v2 ← ldC (F := F) v ![0, 0, 256] inb_S1x128x512_S1x128x128_0_0_256
  let v3 ← ldC (F := F) v ![0, 0, 384] inb_S1x128x512_S1x128x128_0_0_384
  let u ← ldUC (F := F) uc
  let r0 ← ldS (F := F) r ![0, 0, 0] inb_S4x256x128_S1x256x128_0_0_0
  let r1 ← ldS (F := F) r ![1, 0, 0] inb_S4x256x128_S1x256x128_1_0_0
  let r2 ← ldS (F := F) r ![2, 0, 0] inb_S4x256x128_S1x256x128_2_0_0
  let r3 ← ldS (F := F) r ![3, 0, 0] inb_S4x256x128_S1x256x128_3_0_0
  upd acc r ![0, 0, 0] inb_S4x256x128_S1x256x128_0_0_0 (cR q0 k0 u (flatF r0)) (cAcc q0 k0 v0 u (flatF r0))
  upd acc r ![1, 0, 0] inb_S4x256x128_S1x256x128_1_0_0 (cR q1 k1 u (flatF r1)) (cAcc q1 k1 v1 u (flatF r1))
  upd acc r ![2, 0, 0] inb_S4x256x128_S1x256x128_2_0_0 (cR q2 k2 u (flatF r2)) (cAcc q2 k2 v2 u (flatF r2))
  upd acc r ![3, 0, 0] inb_S4x256x128_S1x256x128_3_0_0 (cR q3 k3 u (flatF r3)) (cAcc q3 k3 v3 u (flatF r3))

/-- The four heads' results of a block of queries, written at `o0` … `o3`. -/
def storeOut (g : Memref sig .tc .vmem S1x512 .f32) (acc : Memref sig .tc .vmem S4x256x128 .f32) (out : Memref sig .tc .vmem S1x4096x512 .bf16)
    (o0 o1 o2 o3 : Fin 3 → ℕ) (h0 : InB o0) (h1 : InB o1) (h2 : InB o2) (h3 : InB o3)
    (s0 : (out.access (Rect.unit (s := S1x4096x512) o0 S1x256x128.size h0)).Stores Finset.univ)
    (s1 : (out.access (Rect.unit (s := S1x4096x512) o1 S1x256x128.size h1)).Stores Finset.univ)
    (s2 : (out.access (Rect.unit (s := S1x4096x512) o2 S1x256x128.size h2)).Stores Finset.univ)
    (s3 : (out.access (Rect.unit (s := S1x4096x512) o3 S1x256x128.size h3)).Stores Finset.univ) : KProg F PUnit := do
  let gv ← ldG (F := F) g
  let x0 ← ldS (F := F) acc ![0, 0, 0] inb_S4x256x128_S1x256x128_0_0_0
  let _ ← ldB (F := F) out o0 h0
  stB out o0 h0 s0 (outOf x0 (gain0 gv))
  let x1 ← ldS (F := F) acc ![1, 0, 0] inb_S4x256x128_S1x256x128_1_0_0
  let _ ← ldB (F := F) out o1 h1
  stB out o1 h1 s1 (outOf x1 (gain1 gv))
  let x2 ← ldS (F := F) acc ![2, 0, 0] inb_S4x256x128_S1x256x128_2_0_0
  let _ ← ldB (F := F) out o2 h2
  stB out o2 h2 s2 (outOf x2 (gain2 gv))
  let x3 ← ldS (F := F) acc ![3, 0, 0] inb_S4x256x128_S1x256x128_3_0_0
  let _ ← ldB (F := F) out o3 h3
  stB out o3 h3 s3 (outOf x3 (gain3 gv))

/-- The first block of queries: their own block of keys, then (while anything is left of a stick) the meta tokens. -/
def first (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) (k : BitVec 1 → KProg F PUnit) : KProg F PUnit :=
  heads arg2 ![0, 0, 0] ![0, 0, 128] ![0, 0, 256] ![0, 0, 384] inb_S1x4096x512_S1x256x128_0_0_0 inb_S1x4096x512_S1x256x128_0_0_128 inb_S1x4096x512_S1x256x128_0_0_256 inb_S1x4096x512_S1x256x128_0_0_384 arg11 arg12 fun q0 q1 q2 q3 => do
    let uu ← ldU (F := F) arg9
    sweep1 (oAcc before) (oR before) arg3 arg4 arg11 arg12 ![0, 0, 0] ![0, 0, 128] ![0, 0, 256] ![0, 0, 384] inb_S1x4096x512_S1x256x128_0_0_0 inb_S1x4096x512_S1x256x128_0_0_128 inb_S1x4096x512_S1x256x128_0_0_256 inb_S1x4096x512_S1x256x128_0_0_384 q0 q1 q2 q3 uu
    storeOut arg7 arg11 arg8 ![0, 0, 0] ![0, 0, 128] ![0, 0, 256] ![0, 0, 384] inb_S1x4096x512_S1x256x128_0_0_0 inb_S1x4096x512_S1x256x128_0_0_128 inb_S1x4096x512_S1x256x128_0_0_256 inb_S1x4096x512_S1x256x128_0_0_384 (View.stores_vmem h_S1x256x128 (harg8.storeExact_slice rfl _ packedbf16_S1x4096x512_S1x256x128_0_0_0) (fun _ => rfl)) (View.stores_vmem h_S1x256x128 (harg8.storeExact_slice rfl _ packedbf16_S1x4096x512_S1x256x128_0_0_128) (fun _ => rfl)) (View.stores_vmem h_S1x256x128 (harg8.storeExact_slice rfl _ packedbf16_S1x4096x512_S1x256x128_0_0_256) (fun _ => rfl)) (View.stores_vmem h_S1x256x128 (harg8.storeExact_slice rfl _ packedbf16_S1x4096x512_S1x256x128_0_0_384) (fun _ => rfl))
    let rv ← ldS4 (F := F) arg12
    if Scalar.cmpi .ne (Scalar.extui (live rv) : BitVec 32) 0#32 = 1#1 then do
      sweepC arg5 arg6 arg10 arg11 arg12 q0 q1 q2 q3
      pure ⟨⟩
    else pure ⟨⟩
    if Scalar.cmpi .ne (Scalar.extui (live rv) : BitVec 32) 0#32 = 1#1 then do
      storeOut arg7 arg11 arg8 ![0, 0, 0] ![0, 0, 128] ![0, 0, 256] ![0, 0, 384] inb_S1x4096x512_S1x256x128_0_0_0 inb_S1x4096x512_S1x256x128_0_0_128 inb_S1x4096x512_S1x256x128_0_0_256 inb_S1x4096x512_S1x256x128_0_0_384 (View.stores_vmem h_S1x256x128 (harg8.storeExact_slice rfl _ packedbf16_S1x4096x512_S1x256x128_0_0_0) (fun _ => rfl)) (View.stores_vmem h_S1x256x128 (harg8.storeExact_slice rfl _ packedbf16_S1x4096x512_S1x256x128_0_0_128) (fun _ => rfl)) (View.stores_vmem h_S1x256x128 (harg8.storeExact_slice rfl _ packedbf16_S1x4096x512_S1x256x128_0_0_256) (fun _ => rfl)) (View.stores_vmem h_S1x256x128 (harg8.storeExact_slice rfl _ packedbf16_S1x4096x512_S1x256x128_0_0_384) (fun _ => rfl))
      pure ⟨⟩
    else pure ⟨⟩
    k (live rv)

/-- The kernel: the two matrices of the running sums, the first block, then the fifteen others. -/
def whole (i : grid0.Coords) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) : KProg F PUnit := do
  let _ ← ldU (F := F) arg9
  stU arg9 harg9 (tri (F := F))
  let _ ← ldUC (F := F) arg10
  stUC arg10 harg10 (triC (F := F))
  first (F := F) arg2 harg2 arg3 harg3 arg4 harg4 arg5 harg5 arg6 harg6 arg7 harg7 arg8 harg8 arg9 harg9 arg10 harg10 arg11 harg11 arg12 harg12 fun l => do
    Scf.Loop.for k0_t1_loop k0_t1_ok ⟨⟩ (k0_t1_body (F := F) i arg2 harg2 arg3 harg3 arg4 harg4 arg5 harg5 arg6 harg6 arg7 harg7 arg8 harg8 arg9 harg9 arg10 harg10 arg11 harg11 arg12 harg12 before l)
    pure ⟨⟩

/-- The printed kernel is that program. -/
theorem kernel_eq (i : grid0.Coords) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) :
    cc0_sb_attention (F := F) i arg2 harg2 arg3 harg3 arg4 harg4 arg5 harg5 arg6 harg6 arg7 harg7 arg8 harg8 arg9 harg9 arg10 harg10 arg11 harg11 arg12 harg12 = whole (F := F) i arg2 harg2 arg3 harg3 arg4 harg4 arg5 harg5 arg6 harg6 arg7 harg7 arg8 harg8 arg9 harg9 arg10 harg10 arg11 harg11 arg12 harg12 := by
  sl_kernel_rfl

/-- One block of queries after the first, up to its last writing: their own block of keys and the one before it; while
    anything is left of a stick, the older blocks one after another and at last the meta tokens. -/
def restA (i : grid0.Coords) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) (b : IVec S256x256 1) (l : BitVec 1) (t : Fin k0_t1_loop.trips) : KProg F (Σ' (_ : BitVec 32) (_ : BitVec 32), BitVec 32) :=
  heads arg2 (k0_off1 t) (k0_off2 t) (k0_off3 t) (k0_off4 t) (k0_off1_inb t) (k0_off2_inb t) (k0_off3_inb t) (k0_off4_inb t) arg11 arg12 fun q0 q1 q2 q3 => do
    let uu ← ldU (F := F) arg9
    sweep2 b arg3 arg4 arg11 arg12 (k0_off1 t) (k0_off2 t) (k0_off3 t) (k0_off4 t) (k0_off1_inb t) (k0_off2_inb t) (k0_off3_inb t) (k0_off4_inb t) (k0_off5 t) (k0_off6 t) (k0_off7 t) (k0_off8 t) (k0_off5_inb t) (k0_off6_inb t) (k0_off7_inb t) (k0_off8_inb t) q0 q1 q2 q3 uu
    storeOut arg7 arg11 arg8 (k0_off1 t) (k0_off2 t) (k0_off3 t) (k0_off4 t) (k0_off1_inb t) (k0_off2_inb t) (k0_off3_inb t) (k0_off4_inb t) (View.stores_vmem h_S1x256x128 (harg8.storeExact_slice rfl _ (k0_off1_packedbf16 t)) (fun _ => rfl)) (View.stores_vmem h_S1x256x128 (harg8.storeExact_slice rfl _ (k0_off2_packedbf16 t)) (fun _ => rfl)) (View.stores_vmem h_S1x256x128 (harg8.storeExact_slice rfl _ (k0_off3_packedbf16 t)) (fun _ => rfl)) (View.stores_vmem h_S1x256x128 (harg8.storeExact_slice rfl _ (k0_off4_packedbf16 t)) (fun _ => rfl))
    let rv ← ldS4 (F := F) arg12
    let (_, f) ← Prog.lift (.call (1 : (Λ₀ F).Label) ⟨i, l, t, arg3, harg3, arg4, harg4, q0, q1, q2, q3, uu, arg12, harg12, arg11, harg11, 1#32, live rv⟩)
    if Scalar.cmpi .ne (Scalar.extui f : BitVec 32) 0#32 = 1#1 then do
      sweepC arg5 arg6 arg10 arg11 arg12 q0 q1 q2 q3
      pure ⟨⟩
    else pure ⟨⟩
    pure ⟨Scalar.muli (Scf.iv 1#32 1#32 t) 256#32, (Scalar.extui (live rv) : BitVec 32), 0#32⟩

/-- The whole block: written once more if the walk over the older blocks was made. -/
def rest (i : grid0.Coords) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) (b : IVec S256x256 1) (l : BitVec 1) (t : Fin k0_t1_loop.trips) : KProg F Unit := do
  let ⟨_, m, z⟩ ← restA (F := F) i arg2 harg2 arg3 harg3 arg4 harg4 arg5 harg5 arg6 harg6 arg7 harg7 arg8 harg8 arg9 harg9 arg10 harg10 arg11 harg11 arg12 harg12 b l t
  if Scalar.cmpi .ne m z = 1#1 then do
    storeOut arg7 arg11 arg8 (k0_off13 t) (k0_off14 t) (k0_off15 t) (k0_off16 t) (k0_off13_inb t) (k0_off14_inb t) (k0_off15_inb t) (k0_off16_inb t) (View.stores_vmem h_S1x256x128 (harg8.storeExact_slice rfl _ (k0_off13_packedbf16 t)) (fun _ => rfl)) (View.stores_vmem h_S1x256x128 (harg8.storeExact_slice rfl _ (k0_off14_packedbf16 t)) (fun _ => rfl)) (View.stores_vmem h_S1x256x128 (harg8.storeExact_slice rfl _ (k0_off15_packedbf16 t)) (fun _ => rfl)) (View.stores_vmem h_S1x256x128 (harg8.storeExact_slice rfl _ (k0_off16_packedbf16 t)) (fun _ => rfl))
    pure ⟨⟩
  else do
    pure ⟨⟩
  pure ()

/-- The printed body of the loop over the blocks is that program. -/
theorem body_eq (i : grid0.Coords) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole) (b : IVec S256x256 1) (l : BitVec 1) (t : Fin k0_t1_loop.trips) :
    k0_t1_body (F := F) i arg2 harg2 arg3 harg3 arg4 harg4 arg5 harg5 arg6 harg6 arg7 harg7 arg8 harg8 arg9 harg9 arg10 harg10 arg11 harg11 arg12 harg12 b l t () = rest (F := F) i arg2 harg2 arg3 harg3 arg4 harg4 arg5 harg5 arg6 harg6 arg7 harg7 arg8 harg8 arg9 harg9 arg10 harg10 arg11 harg11 arg12 harg12 b l t := by
  sl_kernel_rfl

/-- The walk over the older blocks: while one is left and so is anything of a stick, sweep the next. -/
def older (i : grid0.Coords) (l : BitVec 1) (t : Fin k0_t1_loop.trips) (k : Memref sig .tc .vmem S1x4096x512 .bf16) (hk : k.IsWhole)
    (v : Memref sig .tc .vmem S1x4096x512 .bf16) (hv : v.IsWhole) (q0 q1 q2 q3 : FVec F S256x128 .bf16) (uu : Vec F S256x256 .bf16)
    (r : Memref sig .tc .vmem S4x256x128 .f32) (hr : r.IsWhole) (acc : Memref sig .tc .vmem S4x256x128 .f32) (hacc : acc.IsWhole)
    (n : BitVec 32) (f : BitVec 1) : KProg F (BitVec 32 × BitVec 1) :=
  if Scalar.andi (Scalar.cmpi .slt n (Scf.iv 1#32 1#32 t)) f = 1#1 then do
    have hw : k0_chk1 t n := (← Prog.lift (TpuEff.assume (k0_chk1 t n) (k0_chk1.dec t n))).down
    sweep1 dAcc dR k v acc r (k0_off9 t n) (k0_off10 t n) (k0_off11 t n) (k0_off12 t n) (k0_off9_inb t n hw) (k0_off10_inb t n hw) (k0_off11_inb t n hw) (k0_off12_inb t n hw) q0 q1 q2 q3 uu
    let rv ← ldS4 (F := F) r
    Prog.lift (.call (1 : (Λ₀ F).Label) ⟨i, l, t, k, hk, v, hv, q0, q1, q2, q3, uu, r, hr, acc, hacc, Scalar.addi n 1#32, live rv⟩)
  else pure (n, f)

/-- The printed loop is that program. -/
theorem older_eq (i : grid0.Coords) (l : BitVec 1) (t : Fin k0_t1_loop.trips) (k : Memref sig .tc .vmem S1x4096x512 .bf16) (hk : k.IsWhole)
    (v : Memref sig .tc .vmem S1x4096x512 .bf16) (hv : v.IsWhole) (q0 q1 q2 q3 : FVec F S256x128 .bf16) (uu : Vec F S256x256 .bf16)
    (r : Memref sig .tc .vmem S4x256x128 .f32) (hr : r.IsWhole) (acc : Memref sig .tc .vmem S4x256x128 .f32) (hacc : acc.IsWhole)
    (n : BitVec 32) (f : BitVec 1) :
    cc0_while1 (F := F) i l t k hk v hv q0 q1 q2 q3 uu r hr acc hacc n f = older (F := F) i l t k hk v hv q0 q1 q2 q3 uu r hr acc hacc n f := by
  sl_kernel_rfl

end Cert.KernelIdeal.Att
-- ==== Proof.PI.Mem.lean ====
/-
  The kernel's loads and stores, and its sweeps, as rules over what the buffers hold.

  The buffers of the four heads' states are held as four blocks, one for each head (`asm`), and the result as sixteen
  blocks of tokens by four heads (`asmO`). A load reads one of them and a store replaces one.
-/
module

public import proofs.«01_k».proof.Proof.PI.Prog
public import Idealize.ShloMosaic.Lib.VecWindow
public import Idealize.ShloMosaic.Lib.ValueIdxCore
public import Idealize.ShloMosaic.Lib.Pipeline.Frame

@[expose] public section

set_option synthInstance.maxSize 4096

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

abbrev 𝒱₀ : Variants := Variants.nat

/-- The weakest precondition of a program of core `c`. -/
abbrev W (c : Dev nD) (bd : Option ℕ) {α : Type} (p : KProg F α) (Q : α → sProp 𝕄) : sProp 𝕄 :=
  wp frame (wpE (defs₀ (F := F)) 𝒱₀ (c : Thread nD τ) bd) Set.univ p Q

/-- A memref of core `c` held in full at contents `X`. -/
abbrev own (c : Dev nD) {s : Shape} {e : EltTy} (m : Memref sig .tc .vmem s e) (X : s.Idx → Elt F e) : sProp 𝕄 :=
  owns (c : Thread nD τ) m fullShare X

/-! ## One load, one store -/

/-- A load of a rectangle reads that window. -/
theorem own_load (c : Dev nD) (bd : Option ℕ) {s : Shape} {e : EltTy} (m : Memref sig .tc .vmem s e) (X : s.Idx → Elt F e)
    (o size : Fin s.rank → ℕ) (h : ∀ a, o a + size a ≤ s.size a) (hl) (Q) :
    own c m X ⊢ iprop((own c m X -∗ Q (VecWindow.window X o size h)) -∗ W (F := F) c bd (Prog.lift (.load m (Rect.unit (s := s) o size h).toLoadRect hl)) Q) := by
  unfold own owns
  iintro ⟨%f, %hf, H⟩ Hk
  subst hf
  iapply (wp_load 𝒱₀ (c : Thread nD τ) bd Set.univ (m := m) (m.view.setOn_subset_set _)) $$ H
  iintro H
  rw [wp_ret, View.readAt_unit _ _ _ rfl h]
  imodintro
  iapply Hk
  iexists f
  isplitr
  · ipureintro; rfl
  · iexact H

/-- A load of the whole of a memref reads its contents. -/
theorem own_loadAll (c : Dev nD) (bd : Option ℕ) {s : Shape} {e : EltTy} (m : Memref sig .tc .vmem s e) (X : s.Idx → Elt F e)
    (o : Fin s.rank → ℕ) (h : ∀ a, o a + s.size a ≤ s.size a) (hl) (Q) :
    own c m X ⊢ iprop((own c m X -∗ Q X) -∗ W (F := F) c bd (Prog.lift (.load m (Rect.unit (s := s) o s.size h).toLoadRect hl)) Q) := by
  have e1 : VecWindow.window X o s.size h = X := funext fun y => congrArg X (Rect.emb_unit_full h y)
  have := own_load c bd m X o s.size h hl Q
  rw [e1] at this
  exact this

/-- A store into a rectangle puts the stored block over that window. -/
theorem own_store (c : Dev nD) (bd : Option ℕ) {s : Shape} {e : EltTy} (m : Memref sig .tc .vmem s e) (X : s.Idx → Elt F e)
    (o size : Fin s.rank → ℕ) (h : ∀ a, o a + size a ≤ s.size a) (w) (hx) (hm) (Q) :
    own c m X ⊢ iprop((own c m (VecWindow.put X o size w) -∗ Q ⟨⟩)
      -∗ W (F := F) c bd (Prog.lift (.store m (Rect.unit (s := s) o size h) w Finset.univ hx hm)) Q) := by
  unfold own owns
  iintro ⟨%f, %hf, H⟩ Hk
  subst hf
  iapply (wp_store 𝒱₀ (c : Thread nD τ) bd Set.univ (m := m) (r := Rect.unit (s := s) o size h) (Mk := Finset.univ) (S := m.view.set)
    (by rw [View.setOn_univ]; exact m.view.set_slice_subset _)) $$ H
  iintro H
  rw [wp_ret]
  imodintro
  iapply Hk
  iexists _
  isplitr
  · ipureintro
    exact (congrArg (m.view.read (Elt F)) (View.writes_singleton (Val := Elt F) (f := f) (v := m.view) (Rect.unit (s := s) o size h) w)).symm.trans
      (View.read_writes_cons_put m.view f h w [] rfl)
  · iexact H

/-- A store over the whole of a memref leaves the stored block. -/
theorem own_storeAll (c : Dev nD) (bd : Option ℕ) {s : Shape} {e : EltTy} (m : Memref sig .tc .vmem s e) (X : s.Idx → Elt F e)
    (o : Fin s.rank → ℕ) (h : ∀ a, o a + s.size a ≤ s.size a) (w) (hx) (hm) (Q) :
    own c m X ⊢ iprop((own c m w -∗ Q ⟨⟩)
      -∗ W (F := F) c bd (Prog.lift (.store m (Rect.unit (s := s) o s.size h) w Finset.univ hx hm)) Q) := by
  have e1 : VecWindow.put X o s.size w = w := by
    funext y
    have ho : ∀ a, o a = 0 := fun a => by have := h a; omega
    unfold VecWindow.put
    rw [dif_pos (fun a => ⟨by rw [ho a]; exact Nat.zero_le _, by rw [ho a, Nat.zero_add]; exact (y a).isLt⟩)]
    exact congrArg w (funext fun a => Fin.ext (by show (y a).val - o a = (y a).val; rw [ho a]; rfl))
  have := own_store (F := F) c bd m X o s.size h w hx hm Q
  rw [e1] at this
  exact this

/-! ## The blocks -/

/-- Four heads' blocks, side by side. -/
def asm {α : Type} (a : Fin 4 → S1x256x128.Idx → α) : S4x256x128.Idx → α := fun i => a (i 0) (ix3 0 (i 1) (i 2))

theorem asm_window {α : Type} (a : Fin 4 → S1x256x128.Idx → α) (h : Fin 4) (o : Fin 3 → ℕ) (ho : o = ![h.val, 0, 0]) (hi : InS o) :
    VecWindow.window (s := S4x256x128) (asm a) o S1x256x128.size hi = a h := by
  subst ho
  funext y
  have e0 : ((Rect.unit (s := S4x256x128) ![h.val, 0, 0] S1x256x128.size hi).emb y 0) = h := Fin.ext (by
    show h.val + 1 * (y 0).val = h.val
    have : (y 0).val < 1 := (y 0).isLt
    omega)
  show a ((Rect.unit (s := S4x256x128) ![h.val, 0, 0] S1x256x128.size hi).emb y 0) _ = _
  rw [e0]
  refine congrArg (a h) (funext fun k => Fin.ext ?_)
  fin_cases k
  · show 0 = (y 0).val
    have : (y 0).val < 1 := (y 0).isLt
    omega
  · show 0 + 1 * (y 1).val = (y 1).val
    omega
  · show 0 + 1 * (y 2).val = (y 2).val
    omega

theorem asm_put {α : Type} (a : Fin 4 → S1x256x128.Idx → α) (h : Fin 4) (o : Fin 3 → ℕ) (ho : o = ![h.val, 0, 0]) (w : S1x256x128.Idx → α) :
    VecWindow.put (s := S4x256x128) (asm a) o S1x256x128.size w = asm (Function.update a h w) := by
  subst ho
  funext y
  unfold VecWindow.put asm
  by_cases hy : y 0 = h
  · rw [dif_pos (fun k => by
      fin_cases k
      · show h.val ≤ (y 0).val ∧ (y 0).val < h.val + 1
        rw [hy]; omega
      · show 0 ≤ (y 1).val ∧ (y 1).val < 0 + 256
        have : (y 1).val < 256 := (y 1).isLt
        omega
      · show 0 ≤ (y 2).val ∧ (y 2).val < 0 + 128
        have : (y 2).val < 128 := (y 2).isLt
        omega)]
    subst hy
    refine Eq.trans (congrArg w (funext fun k => Fin.ext ?_)) (congrFun (Function.update_self (y 0) w a).symm _)
    fin_cases k
    · show (y 0).val - (y 0).val = 0
      omega
    · rfl
    · rfl
  · rw [dif_neg (fun hall => hy (Fin.ext (by
      have h0 : h.val ≤ (y 0).val ∧ (y 0).val < h.val + 1 := hall 0
      omega)))]
    exact (congrFun (Function.update_of_ne (β := fun _ => S1x256x128.Idx → α) hy w a) _).symm

theorem asm_surj {α : Type} (x : S4x256x128.Idx → α) : ∃ a, x = asm a :=
  ⟨fun h y => x (ix3 h (y 1) (y 2)), funext fun i => congrArg x (eq_ix3 i)⟩

/-- Sixteen blocks of tokens by four heads. -/
def asmO {α : Type} (a : Fin 16 → Fin 4 → S1x256x128.Idx → α) : S1x4096x512.Idx → α := fun i =>
  a ⟨(i 1).val / 256, Nat.div_lt_of_lt_mul (i 1).isLt⟩ ⟨(i 2).val / 128, Nat.div_lt_of_lt_mul (i 2).isLt⟩
    (ix3 0 ⟨(i 1).val % 256, Nat.mod_lt _ (by decide)⟩ ⟨(i 2).val % 128, Nat.mod_lt _ (by decide)⟩)

theorem asmO_put {α : Type} (a : Fin 16 → Fin 4 → S1x256x128.Idx → α) (b : Fin 16) (h : Fin 4) (o : Fin 3 → ℕ)
    (ho : o = ![0, 256 * b.val, 128 * h.val]) (w : S1x256x128.Idx → α) :
    VecWindow.put (s := S1x4096x512) (asmO a) o S1x256x128.size w = asmO (Function.update a b (Function.update (a b) h w)) := by
  subst ho
  funext y
  unfold VecWindow.put asmO
  have l1 : (y 1).val < 4096 := (y 1).isLt
  have l2 : (y 2).val < 512 := (y 2).isLt
  have l0 : (y 0).val < 1 := (y 0).isLt
  by_cases hb : (⟨(y 1).val / 256, Nat.div_lt_of_lt_mul l1⟩ : Fin 16) = b
  · have hb' : (y 1).val / 256 = b.val := congrArg Fin.val hb
    rw [hb, Function.update_self]
    by_cases hh : (⟨(y 2).val / 128, Nat.div_lt_of_lt_mul l2⟩ : Fin 4) = h
    · have hh' : (y 2).val / 128 = h.val := congrArg Fin.val hh
      rw [hh, Function.update_self, dif_pos (fun k => by
        fin_cases k
        · show 0 ≤ (y 0).val ∧ (y 0).val < 0 + 1
          omega
        · show 256 * b.val ≤ (y 1).val ∧ (y 1).val < 256 * b.val + 256
          omega
        · show 128 * h.val ≤ (y 2).val ∧ (y 2).val < 128 * h.val + 128
          omega)]
      refine congrArg w (funext fun k => Fin.ext ?_)
      fin_cases k
      · show (y 0).val - 0 = 0
        omega
      · show (y 1).val - 256 * b.val = (y 1).val % 256
        omega
      · show (y 2).val - 128 * h.val = (y 2).val % 128
        omega
    · rw [Function.update_of_ne hh, dif_neg (fun hall => hh (Fin.ext (by
        have h0 : 128 * h.val ≤ (y 2).val ∧ (y 2).val < 128 * h.val + 128 := hall 2
        show (y 2).val / 128 = h.val
        omega)))]
  · rw [Function.update_of_ne hb, dif_neg (fun hall => hb (Fin.ext (by
        have h0 : 256 * b.val ≤ (y 1).val ∧ (y 1).val < 256 * b.val + 256 := hall 1
        show (y 1).val / 256 = b.val
        omega)))]

theorem asmO_surj {α : Type} (x : S1x4096x512.Idx → α) : ∃ a, x = asmO a :=
  ⟨fun b h y => x (ix3 0 ⟨(256 * b.val + (y 1).val) % 4096, Nat.mod_lt _ (by decide)⟩ ⟨(128 * h.val + (y 2).val) % 512, Nat.mod_lt _ (by decide)⟩),
    funext fun i => congrArg x (funext fun k => Fin.ext (by
      have l0 : (i 0).val < 1 := (i 0).isLt
      have l1 : (i 1).val < 4096 := (i 1).isLt
      have l2 : (i 2).val < 512 := (i 2).isLt
      fin_cases k
      · show (i 0).val = 0
        omega
      · show (i 1).val = (256 * ((i 1).val / 256) + (i 1).val % 256) % 4096
        omega
      · show (i 2).val = (128 * ((i 2).val / 128) + (i 2).val % 128) % 512
        omega))⟩

/-- Block `b` of the tokens, of head `h`. -/
def blk {α : Type} (X : S1x4096x512.Idx → α) (b : ℕ) (h : Fin 4) : S1x256x128.Idx → α := fun y =>
  X (ix3 0 ⟨(256 * b + (y 1).val) % 4096, Nat.mod_lt _ (by decide)⟩ ⟨(128 * h.val + (y 2).val) % 512, Nat.mod_lt _ (by decide)⟩)

theorem blk_window {α : Type} (X : S1x4096x512.Idx → α) (b : ℕ) (h : Fin 4) (o : Fin 3 → ℕ) (ho : o = ![0, 256 * b, 128 * h.val]) (hi : InB o) :
    VecWindow.window (s := S1x4096x512) X o S1x256x128.size hi = blk X b h := by
  subst ho
  funext y
  refine congrArg X (funext fun k => Fin.ext ?_)
  have l0 : (y 0).val < 1 := (y 0).isLt
  have l1 : (y 1).val < 256 := (y 1).isLt
  have l2 : (y 2).val < 128 := (y 2).isLt
  have l3 : 256 * b + 256 ≤ 4096 := hi 1
  have l4 : h.val < 4 := h.isLt
  fin_cases k
  · show 0 + 1 * (y 0).val = 0
    omega
  · show 256 * b + 1 * (y 1).val = (256 * b + (y 1).val) % 4096
    omega
  · show 128 * h.val + 1 * (y 2).val = (128 * h.val + (y 2).val) % 512
    omega

/-- The meta tokens' block of head `h`. -/
def blkC {α : Type} (X : S1x128x512.Idx → α) (h : Fin 4) : S1x128x128.Idx → α := fun y =>
  X (ix3 0 (y 1) ⟨(128 * h.val + (y 2).val) % 512, Nat.mod_lt _ (by decide)⟩)

theorem blkC_window {α : Type} (X : S1x128x512.Idx → α) (h : Fin 4) (o : Fin 3 → ℕ) (ho : o = ![0, 0, 128 * h.val]) (hi : InC o) :
    VecWindow.window (s := S1x128x512) X o S1x128x128.size hi = blkC X h := by
  subst ho
  funext y
  refine congrArg X (funext fun k => Fin.ext ?_)
  have l0 : (y 0).val < 1 := (y 0).isLt
  have l2 : (y 2).val < 128 := (y 2).isLt
  have l4 : h.val < 4 := h.isLt
  fin_cases k
  · show 0 + 1 * (y 0).val = 0
    omega
  · show 0 + 1 * (y 1).val = (y 1).val
    omega
  · show 128 * h.val + 1 * (y 2).val = (128 * h.val + (y 2).val) % 512
    omega

/-! ## The kernel's loads and stores -/

section Ops

variable (c : Dev nD) (bd : Option ℕ)

theorem ldB_spec (m : Memref sig .tc .vmem S1x4096x512 .bf16) (X : Vec F S1x4096x512 .bf16) (b : ℕ) (h : Fin 4) (o : Fin 3 → ℕ)
    (ho : o = ![0, 256 * b, 128 * h.val]) (hi : InB o) (Q) :
    own c m X ⊢ iprop((own c m X -∗ Q (blk X b h)) -∗ W (F := F) c bd (ldB m o hi) Q) := by
  have := own_load (F := F) c bd m X o S1x256x128.size hi (View.loadsAt_vmem h_S1x256x128) Q
  rw [blk_window X b h o ho hi] at this
  exact this

theorem ldC_spec (m : Memref sig .tc .vmem S1x128x512 .bf16) (X : Vec F S1x128x512 .bf16) (h : Fin 4) (o : Fin 3 → ℕ)
    (ho : o = ![0, 0, 128 * h.val]) (hi : InC o) (Q) :
    own c m X ⊢ iprop((own c m X -∗ Q (blkC X h)) -∗ W (F := F) c bd (ldC m o hi) Q) := by
  have := own_load (F := F) c bd m X o S1x128x128.size hi (View.loadsAt_vmem h_S1x128x128) Q
  rw [blkC_window X h o ho hi] at this
  exact this

theorem ldS_spec (m : Memref sig .tc .vmem S4x256x128 .f32) (a : Fin 4 → Vec F S1x256x128 .f32) (h : Fin 4) (o : Fin 3 → ℕ)
    (ho : o = ![h.val, 0, 0]) (hi : InS o) (Q) :
    own c m (asm a) ⊢ iprop((own c m (asm a) -∗ Q (a h)) -∗ W (F := F) c bd (ldS m o hi) Q) := by
  have := own_load (F := F) c bd m (asm a) o S1x256x128.size hi (View.loadsAt_vmem h_S1x256x128) Q
  rw [asm_window a h o ho hi] at this
  exact this

theorem stS_spec (m : Memref sig .tc .vmem S4x256x128 .f32) (a : Fin 4 → Vec F S1x256x128 .f32) (h : Fin 4) (o : Fin 3 → ℕ)
    (ho : o = ![h.val, 0, 0]) (hi : InS o) (w : FVec F S1x256x128 .f32) (Q) :
    own c m (asm a) ⊢ iprop((own c m (asm (Function.update a h w)) -∗ Q ⟨⟩) -∗ W (F := F) c bd (stS m o hi w) Q) := by
  have := own_store (F := F) c bd m (asm a) o S1x256x128.size hi w (View.stores_vmem_bits_univ h_S1x256x128 rfl) (.inl rfl) Q
  rw [asm_put a h o ho w] at this
  exact this

theorem stB_spec (m : Memref sig .tc .vmem S1x4096x512 .bf16) (a : Fin 16 → Fin 4 → Vec F S1x256x128 .bf16) (b : Fin 16) (h : Fin 4) (o : Fin 3 → ℕ)
    (ho : o = ![0, 256 * b.val, 128 * h.val]) (hi : InB o) (hs) (w : FVec F S1x256x128 .bf16) (Q) :
    own c m (asmO a) ⊢ iprop((own c m (asmO (Function.update a b (Function.update (a b) h w))) -∗ Q ⟨⟩) -∗ W (F := F) c bd (stB m o hi hs w) Q) := by
  have := own_store (F := F) c bd m (asmO a) o S1x256x128.size hi w hs (.inl rfl) Q
  rw [asmO_put a b h o ho w] at this
  exact this

theorem ldS4_spec (m : Memref sig .tc .vmem S4x256x128 .f32) (X : Vec F S4x256x128 .f32) (Q) :
    own c m X ⊢ iprop((own c m X -∗ Q X) -∗ W (F := F) c bd (ldS4 m) Q) := own_loadAll c bd m X _ _ _ Q

theorem stS4_spec (m : Memref sig .tc .vmem S4x256x128 .f32) (X : Vec F S4x256x128 .f32) (w : FVec F S4x256x128 .f32) (Q) :
    own c m X ⊢ iprop((own c m w -∗ Q ⟨⟩) -∗ W (F := F) c bd (stS4 m w) Q) := own_storeAll c bd m X _ _ _ _ _ Q

theorem ldU_spec (m : Memref sig .tc .vmem S256x256 .bf16) (X : Vec F S256x256 .bf16) (Q) :
    own c m X ⊢ iprop((own c m X -∗ Q X) -∗ W (F := F) c bd (ldU m) Q) := own_loadAll c bd m X _ _ _ Q

theorem stU_spec (m : Memref sig .tc .vmem S256x256 .bf16) (hm) (X : Vec F S256x256 .bf16) (w : FVec F S256x256 .bf16) (Q) :
    own c m X ⊢ iprop((own c m w -∗ Q ⟨⟩) -∗ W (F := F) c bd (stU m hm w) Q) := own_storeAll c bd m X _ _ _ _ _ Q

theorem ldUC_spec (m : Memref sig .tc .vmem S128x128 .bf16) (X : Vec F S128x128 .bf16) (Q) :
    own c m X ⊢ iprop((own c m X -∗ Q X) -∗ W (F := F) c bd (ldUC m) Q) := own_loadAll c bd m X _ _ _ Q

theorem stUC_spec (m : Memref sig .tc .vmem S128x128 .bf16) (hm) (X : Vec F S128x128 .bf16) (w : FVec F S128x128 .bf16) (Q) :
    own c m X ⊢ iprop((own c m w -∗ Q ⟨⟩) -∗ W (F := F) c bd (stUC m hm w) Q) := own_storeAll c bd m X _ _ _ _ _ Q

theorem ldG_spec (m : Memref sig .tc .vmem S1x512 .f32) (X : Vec F S1x512 .f32) (Q) :
    own c m X ⊢ iprop((own c m X -∗ Q X) -∗ W (F := F) c bd (ldG m) Q) := own_loadAll c bd m X _ _ _ Q

/-- One head's update. -/
theorem upd_spec (acc r : Memref sig .tc .vmem S4x256x128 .f32) (a s : Fin 4 → Vec F S1x256x128 .f32) (h : Fin 4) (o : Fin 3 → ℕ)
    (ho : o = ![h.val, 0, 0]) (hi : InS o) (rn x : FVec F S256x128 .f32) (Q) :
    iprop(own c acc (asm a) ∗ own c r (asm s))
      ⊢ iprop((iprop(own c acc (asm (Function.update a h (grow (a h) x))) ∗ own c r (asm (Function.update s h (lift rn)))) -∗ Q ⟨⟩)
        -∗ W (F := F) c bd (upd acc r o hi rn x) Q) := by
  iintro ⟨Ha, Hr⟩ Hk
  unfold upd
  simp only [wp_bind]
  iapply (ldS_spec c bd r s h o ho hi) $$ Hr
  iintro Hr
  iapply (stS_spec c bd r s h o ho hi) $$ Hr
  iintro Hr
  iapply (ldS_spec c bd acc a h o ho hi) $$ Ha
  iintro Ha
  iapply (ldS_spec c bd acc a h o ho hi) $$ Ha
  iintro Ha
  iapply (stS_spec c bd acc a h o ho hi) $$ Ha
  iintro Ha
  iapply Hk
  isplitl [Ha]
  · iexact Ha
  · iexact Hr

end Ops

end Cert.KernelIdeal.Att
-- ==== Proof.PI.Sweep.lean ====
/-
  The sweeps of the attention kernel as steps of the heads' states, and what a whole block of queries comes to: its own
  block of keys (with the one before it), then the older blocks one after another, then the meta tokens, as long as
  anything is left of a stick.
-/
module

public import proofs.«01_k».proof.Proof.PI.Mem

@[expose] public section

set_option synthInstance.maxSize 4096

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

/-! ## The model -/

/-- The four heads' states: the weighted values so far, and the running sums. -/
structure St (F : FTy → Type) where
  acc : Fin 4 → Vec F S1x256x128 .f32
  r : Fin 4 → Vec F S1x256x128 .f32

/-- Before any key. -/
def St.zero : St F where
  acc h y := zero4 (F := F) (ix3 h (y 1) (y 2))
  r h y := zero4 (F := F) (ix3 h (y 1) (y 2))

/-- A sweep against a block of keys. -/
def St.step (fa : FVec F S256x128 .bf16 → Vec F S1x256x128 .bf16 → Vec F S1x256x128 .bf16 → Vec F S256x256 .bf16 → FVec F S256x128 .f32 → FVec F S256x128 .f32)
    (fr : FVec F S256x128 .bf16 → Vec F S1x256x128 .bf16 → Vec F S256x256 .bf16 → FVec F S256x128 .f32 → FVec F S256x128 .f32)
    (qq : Fin 4 → FVec F S256x128 .bf16) (kk vv : Fin 4 → Vec F S1x256x128 .bf16) (s : St F) : St F where
  acc h := grow (s.acc h) (fa (qq h) (kk h) (vv h) tri (flatF (s.r h)))
  r h := lift (fr (qq h) (kk h) tri (flatF (s.r h)))

/-- A sweep against the queries' own block and the one before it. -/
def St.step2 (qq : Fin 4 → FVec F S256x128 .bf16) (kk vv ll ww : Fin 4 → Vec F S1x256x128 .bf16) (s : St F) : St F where
  acc h := grow (s.acc h) (addf (oAcc before (qq h) (kk h) (vv h) tri (flatF (s.r h)))
    (dAcc (qq h) (ll h) (ww h) tri (oR before (qq h) (kk h) tri (flatF (s.r h)))))
  r h := lift (dR (qq h) (ll h) tri (oR before (qq h) (kk h) tri (flatF (s.r h))))

/-- A sweep against the meta tokens. -/
def St.stepC (qq : Fin 4 → FVec F S256x128 .bf16) (kk vv : Fin 4 → Vec F S1x128x128 .bf16) (s : St F) : St F where
  acc h := grow (s.acc h) (cAcc (qq h) (kk h) (vv h) triC (flatF (s.r h)))
  r h := lift (cR (qq h) (kk h) triC (flatF (s.r h)))

/-- A flag is set. -/
abbrev on (l : BitVec 1) : Prop := Scalar.cmpi .ne (Scalar.extui l : BitVec 32) 0#32 = 1#1

/-- Anything is left of some stick. -/
abbrev St.live (s : St F) : BitVec 1 := Att.live (asm s.r)

/-- The queries of block `b`. -/
abbrev qs (Q : Vec F S1x4096x512 .bf16) (b : ℕ) (h : Fin 4) : FVec F S256x128 .bf16 := flat (blk Q b h)

/-- The walk over the `j` older blocks, the newest first; `n` counts the blocks done and `f` says whether to go on. -/
def run (K V : Vec F S1x4096x512 .bf16) (qq : Fin 4 → FVec F S256x128 .bf16) : ℕ → BitVec 32 → St F → BitVec 1 → St F × BitVec 32 × BitVec 1
  | 0, n, s, f => (s, n, f)
  | j + 1, n, s, f => if f = 1#1 then
      run K V qq j (Scalar.addi n 1#32) (s.step dAcc dR qq (blk K j) (blk V j)) (s.step dAcc dR qq (blk K j) (blk V j)).live
    else (s, n, f)

/-- The gains of head `h`. -/
def gain (g : Vec F S1x512 .f32) : Fin 4 → FVec F S1x128 .f32
  | 0 => gain0 g
  | 1 => gain1 g
  | 2 => gain2 g
  | 3 => gain3 g

/-- The results of a state. -/
def St.out (g : Vec F S1x512 .f32) (s : St F) (h : Fin 4) : Vec F S1x256x128 .bf16 := outOf (s.acc h) (gain g h)

/-- The first state of a block. -/
def start (Q K V : Vec F S1x4096x512 .bf16) : ℕ → St F
  | 0 => St.zero.step (oAcc before) (oR before) (qs Q 0) (blk K 0) (blk V 0)
  | t + 1 => St.zero.step2 (qs Q (t + 1)) (blk K (t + 1)) (blk V (t + 1)) (blk K t) (blk V t)

/-- The state after the older blocks, and whether anything is left. -/
def walked (Q K V : Vec F S1x4096x512 .bf16) : ℕ → St F × BitVec 32 × BitVec 1
  | 0 => (start Q K V 0, 1#32, (start Q K V 0).live)
  | t + 1 => run K V (qs Q (t + 1)) t 1#32 (start Q K V (t + 1)) (start Q K V (t + 1)).live

/-- The state after the meta tokens. -/
def ended (Q K V : Vec F S1x4096x512 .bf16) (KC VC : Vec F S1x128x512 .bf16) (b : ℕ) : St F :=
  if on (walked Q K V b).2.2 then (walked Q K V b).1.stepC (qs Q b) (blkC KC) (blkC VC) else (walked Q K V b).1

/-- The results of block `b`. -/
def blockOut (Q K V : Vec F S1x4096x512 .bf16) (KC VC : Vec F S1x128x512 .bf16) (g : Vec F S1x512 .f32) (b : ℕ) : Fin 4 → Vec F S1x256x128 .bf16 :=
  if on (start Q K V b).live then (ended Q K V KC VC b).out g else (start Q K V b).out g

/-! ## The programs take the steps -/

theorem asm_zero : asm (St.zero (F := F)).acc = zero4 (F := F) := funext fun i => congrArg (zero4 (F := F)) (eq_ix3 i).symm
theorem asm_zero_r : asm (St.zero (F := F)).r = zero4 (F := F) := funext fun i => congrArg (zero4 (F := F)) (eq_ix3 i).symm

theorem update4 {α : Type} (f : Fin 4 → α) (x0 x1 x2 x3 : α) :
    Function.update (Function.update (Function.update (Function.update f 0 x0) 1 x1) 2 x2) 3 x3 = ![x0, x1, x2, x3] := by
  funext h
  fin_cases h <;> rfl

theorem fun4 {α : Type} (f : Fin 4 → α) : ![f 0, f 1, f 2, f 3] = f := by
  funext h
  fin_cases h <;> rfl

section Ops

variable (c : Dev nD) (bd : Option ℕ)

/-- The states held. -/
abbrev stOwn (acc r : Memref sig .tc .vmem S4x256x128 .f32) (s : St F) : sProp 𝕄 := iprop(own c acc (asm s.acc) ∗ own c r (asm s.r))

/-- Four updates, one for each head. -/
theorem upd4_spec (acc r : Memref sig .tc .vmem S4x256x128 .f32) (s : St F) (rn x : Fin 4 → FVec F S256x128 .f32) (Q : PUnit → sProp 𝕄) :
    stOwn c acc r s ⊢ iprop((stOwn c acc r ⟨fun h => grow (s.acc h) (x h), fun h => lift (rn h)⟩ -∗ Q ⟨⟩)
      -∗ W (F := F) c bd (upd acc r ![0, 0, 0] inb_S4x256x128_S1x256x128_0_0_0 (rn 0) (x 0)) fun _ =>
          W (F := F) c bd (upd acc r ![1, 0, 0] inb_S4x256x128_S1x256x128_1_0_0 (rn 1) (x 1)) fun _ =>
          W (F := F) c bd (upd acc r ![2, 0, 0] inb_S4x256x128_S1x256x128_2_0_0 (rn 2) (x 2)) fun _ =>
          W (F := F) c bd (upd acc r ![3, 0, 0] inb_S4x256x128_S1x256x128_3_0_0 (rn 3) (x 3)) Q) := by
  iintro H Hk
  iapply (upd_spec c bd acc r _ _ 0 ![0, 0, 0] rfl inb_S4x256x128_S1x256x128_0_0_0 (rn 0) (x 0)) $$ H
  iintro H
  iapply (upd_spec c bd acc r _ _ 1 ![1, 0, 0] rfl inb_S4x256x128_S1x256x128_1_0_0 (rn 1) (x 1)) $$ H
  iintro H
  iapply (upd_spec c bd acc r _ _ 2 ![2, 0, 0] rfl inb_S4x256x128_S1x256x128_2_0_0 (rn 2) (x 2)) $$ H
  iintro H
  iapply (upd_spec c bd acc r _ _ 3 ![3, 0, 0] rfl inb_S4x256x128_S1x256x128_3_0_0 (rn 3) (x 3)) $$ H
  iintro H
  iapply Hk
  rw [update4, update4]
  have e1 : ![grow (s.acc 0) (x 0), grow (s.acc 1) (x 1), grow (s.acc 2) (x 2), grow (s.acc 3) (x 3)] = fun h => grow (s.acc h) (x h) := fun4 fun h => grow (s.acc h) (x h)
  have e2 : ![lift (rn 0), lift (rn 1), lift (rn 2), lift (rn 3)] = fun h => lift (rn h) := fun4 fun h => lift (rn h)
  rw [← e1, ← e2]
  iexact H

/-- The offsets of block `b`, head by head. -/
abbrev Offs (b : ℕ) (o0 o1 o2 o3 : Fin 3 → ℕ) : Prop :=
  o0 = ![0, 256 * b, 128 * (0 : Fin 4).val] ∧ o1 = ![0, 256 * b, 128 * (1 : Fin 4).val] ∧ o2 = ![0, 256 * b, 128 * (2 : Fin 4).val] ∧ o3 = ![0, 256 * b, 128 * (3 : Fin 4).val]

theorem heads_spec (q : Memref sig .tc .vmem S1x4096x512 .bf16) (b : ℕ) (o0 o1 o2 o3 : Fin 3 → ℕ) (h0 : InB o0) (h1 : InB o1) (h2 : InB o2) (h3 : InB o3)
    (ho : Offs b o0 o1 o2 o3) (acc r : Memref sig .tc .vmem S4x256x128 .f32) {α : Type} (body) (X : Vec F S1x4096x512 .bf16) (A R : Vec F S4x256x128 .f32)
    (Q : α → sProp 𝕄) :
    iprop(own c q X ∗ own c acc A ∗ own c r R)
      ⊢ iprop((iprop(own c q X ∗ stOwn c acc r St.zero) -∗ W (F := F) c bd (body (qs X b 0) (qs X b 1) (qs X b 2) (qs X b 3)) Q)
        -∗ W (F := F) c bd (heads q o0 o1 o2 o3 h0 h1 h2 h3 acc r body) Q) := by
  obtain ⟨e0, e1, e2, e3⟩ := ho
  iintro ⟨Hq, Ha, Hr⟩ Hk
  unfold heads
  simp only [wp_bind]
  iapply (ldB_spec c bd q X b 0 o0 e0 h0) $$ Hq
  iintro Hq
  iapply (ldB_spec c bd q X b 1 o1 e1 h1) $$ Hq
  iintro Hq
  iapply (ldB_spec c bd q X b 2 o2 e2 h2) $$ Hq
  iintro Hq
  iapply (ldB_spec c bd q X b 3 o3 e3 h3) $$ Hq
  iintro Hq
  iapply (ldS4_spec c bd acc A) $$ Ha
  iintro Ha
  iapply (stS4_spec c bd acc A zero4) $$ Ha
  iintro Ha
  iapply (ldS4_spec c bd r R) $$ Hr
  iintro Hr
  iapply (stS4_spec c bd r R zero4) $$ Hr
  iintro Hr
  iapply Hk
  isplitl [Hq]
  · iexact Hq
  isplitl [Ha]
  · rw [asm_zero]
    iexact Ha
  · rw [asm_zero_r]
    iexact Hr

theorem sweep1_spec (fa fr) (k v : Memref sig .tc .vmem S1x4096x512 .bf16) (acc r : Memref sig .tc .vmem S4x256x128 .f32)
    (b : ℕ) (o0 o1 o2 o3 : Fin 3 → ℕ) (h0 : InB o0) (h1 : InB o1) (h2 : InB o2) (h3 : InB o3) (ho : Offs b o0 o1 o2 o3)
    (qq : Fin 4 → FVec F S256x128 .bf16) (K V : Vec F S1x4096x512 .bf16) (s : St F) (Q : PUnit → sProp 𝕄) :
    iprop(own c k K ∗ own c v V ∗ stOwn c acc r s)
      ⊢ iprop((iprop(own c k K ∗ own c v V ∗ stOwn c acc r (s.step fa fr qq (blk K b) (blk V b))) -∗ Q ⟨⟩)
        -∗ W (F := F) c bd (sweep1 fa fr k v acc r o0 o1 o2 o3 h0 h1 h2 h3 (qq 0) (qq 1) (qq 2) (qq 3) tri) Q) := by
  obtain ⟨e0, e1, e2, e3⟩ := ho
  iintro ⟨Hk, Hv, Ha, Hr⟩ HQ
  unfold sweep1
  simp only [wp_bind]
  iapply (ldB_spec c bd k K b 0 o0 e0 h0) $$ Hk
  iintro Hk
  iapply (ldB_spec c bd k K b 1 o1 e1 h1) $$ Hk
  iintro Hk
  iapply (ldB_spec c bd k K b 2 o2 e2 h2) $$ Hk
  iintro Hk
  iapply (ldB_spec c bd k K b 3 o3 e3 h3) $$ Hk
  iintro Hk
  iapply (ldB_spec c bd v V b 0 o0 e0 h0) $$ Hv
  iintro Hv
  iapply (ldB_spec c bd v V b 1 o1 e1 h1) $$ Hv
  iintro Hv
  iapply (ldB_spec c bd v V b 2 o2 e2 h2) $$ Hv
  iintro Hv
  iapply (ldB_spec c bd v V b 3 o3 e3 h3) $$ Hv
  iintro Hv
  iapply (ldS_spec c bd r s.r 0 ![0, 0, 0] rfl) $$ Hr
  iintro Hr
  iapply (ldS_spec c bd r s.r 1 ![1, 0, 0] rfl) $$ Hr
  iintro Hr
  iapply (ldS_spec c bd r s.r 2 ![2, 0, 0] rfl) $$ Hr
  iintro Hr
  iapply (ldS_spec c bd r s.r 3 ![3, 0, 0] rfl) $$ Hr
  iintro Hr
  iapply (upd4_spec c bd acc r s (fun h => fr (qq h) (blk K b h) tri (flatF (s.r h))) (fun h => fa (qq h) (blk K b h) (blk V b h) tri (flatF (s.r h)))) $$ [Ha Hr]
  · isplitl [Ha]
    · iexact Ha
    · iexact Hr
  iintro H
  iapply HQ
  isplitl [Hk]
  · iexact Hk
  isplitl [Hv]
  · iexact Hv
  iexact H

theorem sweep2_spec (k v : Memref sig .tc .vmem S1x4096x512 .bf16) (acc r : Memref sig .tc .vmem S4x256x128 .f32)
    (b b' : ℕ) (o0 o1 o2 o3 : Fin 3 → ℕ) (h0 : InB o0) (h1 : InB o1) (h2 : InB o2) (h3 : InB o3) (ho : Offs b o0 o1 o2 o3)
    (p0 p1 p2 p3 : Fin 3 → ℕ) (i0 : InB p0) (i1 : InB p1) (i2 : InB p2) (i3 : InB p3) (hp : Offs b' p0 p1 p2 p3)
    (qq : Fin 4 → FVec F S256x128 .bf16) (K V : Vec F S1x4096x512 .bf16) (s : St F) (Q : PUnit → sProp 𝕄) :
    iprop(own c k K ∗ own c v V ∗ stOwn c acc r s)
      ⊢ iprop((iprop(own c k K ∗ own c v V ∗ stOwn c acc r (s.step2 qq (blk K b) (blk V b) (blk K b') (blk V b'))) -∗ Q ⟨⟩)
        -∗ W (F := F) c bd (sweep2 before k v acc r o0 o1 o2 o3 h0 h1 h2 h3 p0 p1 p2 p3 i0 i1 i2 i3 (qq 0) (qq 1) (qq 2) (qq 3) tri) Q) := by
  obtain ⟨e0, e1, e2, e3⟩ := ho
  obtain ⟨f0, f1, f2, f3⟩ := hp
  iintro ⟨Hk, Hv, Ha, Hr⟩ HQ
  unfold sweep2
  simp only [wp_bind]
  iapply (ldB_spec c bd k K b 0 o0 e0 h0) $$ Hk
  iintro Hk
  iapply (ldB_spec c bd k K b 1 o1 e1 h1) $$ Hk
  iintro Hk
  iapply (ldB_spec c bd k K b 2 o2 e2 h2) $$ Hk
  iintro Hk
  iapply (ldB_spec c bd k K b 3 o3 e3 h3) $$ Hk
  iintro Hk
  iapply (ldB_spec c bd v V b 0 o0 e0 h0) $$ Hv
  iintro Hv
  iapply (ldB_spec c bd v V b 1 o1 e1 h1) $$ Hv
  iintro Hv
  iapply (ldB_spec c bd v V b 2 o2 e2 h2) $$ Hv
  iintro Hv
  iapply (ldB_spec c bd v V b 3 o3 e3 h3) $$ Hv
  iintro Hv
  iapply (ldB_spec c bd k K b' 0 p0 f0 i0) $$ Hk
  iintro Hk
  iapply (ldB_spec c bd k K b' 1 p1 f1 i1) $$ Hk
  iintro Hk
  iapply (ldB_spec c bd k K b' 2 p2 f2 i2) $$ Hk
  iintro Hk
  iapply (ldB_spec c bd k K b' 3 p3 f3 i3) $$ Hk
  iintro Hk
  iapply (ldB_spec c bd v V b' 0 p0 f0 i0) $$ Hv
  iintro Hv
  iapply (ldB_spec c bd v V b' 1 p1 f1 i1) $$ Hv
  iintro Hv
  iapply (ldB_spec c bd v V b' 2 p2 f2 i2) $$ Hv
  iintro Hv
  iapply (ldB_spec c bd v V b' 3 p3 f3 i3) $$ Hv
  iintro Hv
  iapply (ldS_spec c bd r s.r 0 ![0, 0, 0] rfl) $$ Hr
  iintro Hr
  iapply (ldS_spec c bd r s.r 1 ![1, 0, 0] rfl) $$ Hr
  iintro Hr
  iapply (ldS_spec c bd r s.r 2 ![2, 0, 0] rfl) $$ Hr
  iintro Hr
  iapply (ldS_spec c bd r s.r 3 ![3, 0, 0] rfl) $$ Hr
  iintro Hr
  iapply (upd4_spec c bd acc r s (fun h => dR (qq h) (blk K b' h) tri (oR before (qq h) (blk K b h) tri (flatF (s.r h))))
    (fun h => addf (oAcc before (qq h) (blk K b h) (blk V b h) tri (flatF (s.r h)))
      (dAcc (qq h) (blk K b' h) (blk V b' h) tri (oR before (qq h) (blk K b h) tri (flatF (s.r h)))))) $$ [Ha Hr]
  · isplitl [Ha]
    · iexact Ha
    · iexact Hr
  iintro H
  iapply HQ
  isplitl [Hk]
  · iexact Hk
  isplitl [Hv]
  · iexact Hv
  iexact H

theorem sweepC_spec (k v : Memref sig .tc .vmem S1x128x512 .bf16) (uc : Memref sig .tc .vmem S128x128 .bf16) (acc r : Memref sig .tc .vmem S4x256x128 .f32)
    (qq : Fin 4 → FVec F S256x128 .bf16) (K V : Vec F S1x128x512 .bf16) (s : St F) (Q : PUnit → sProp 𝕄) :
    iprop(own c k K ∗ own c v V ∗ own c uc triC ∗ stOwn c acc r s)
      ⊢ iprop((iprop(own c k K ∗ own c v V ∗ own c uc triC ∗ stOwn c acc r (s.stepC qq (blkC K) (blkC V))) -∗ Q ⟨⟩)
        -∗ W (F := F) c bd (sweepC k v uc acc r (qq 0) (qq 1) (qq 2) (qq 3)) Q) := by
  iintro ⟨Hk, Hv, Hu, Ha, Hr⟩ HQ
  unfold sweepC
  simp only [wp_bind]
  iapply (ldC_spec c bd k K 0 _ rfl) $$ Hk
  iintro Hk
  iapply (ldC_spec c bd k K 1 _ rfl) $$ Hk
  iintro Hk
  iapply (ldC_spec c bd k K 2 _ rfl) $$ Hk
  iintro Hk
  iapply (ldC_spec c bd k K 3 _ rfl) $$ Hk
  iintro Hk
  iapply (ldC_spec c bd v V 0 _ rfl) $$ Hv
  iintro Hv
  iapply (ldC_spec c bd v V 1 _ rfl) $$ Hv
  iintro Hv
  iapply (ldC_spec c bd v V 2 _ rfl) $$ Hv
  iintro Hv
  iapply (ldC_spec c bd v V 3 _ rfl) $$ Hv
  iintro Hv
  iapply (ldUC_spec c bd uc triC) $$ Hu
  iintro Hu
  iapply (ldS_spec c bd r s.r 0 ![0, 0, 0] rfl) $$ Hr
  iintro Hr
  iapply (ldS_spec c bd r s.r 1 ![1, 0, 0] rfl) $$ Hr
  iintro Hr
  iapply (ldS_spec c bd r s.r 2 ![2, 0, 0] rfl) $$ Hr
  iintro Hr
  iapply (ldS_spec c bd r s.r 3 ![3, 0, 0] rfl) $$ Hr
  iintro Hr
  iapply (upd4_spec c bd acc r s (fun h => cR (qq h) (blkC K h) triC (flatF (s.r h))) (fun h => cAcc (qq h) (blkC K h) (blkC V h) triC (flatF (s.r h)))) $$ [Ha Hr]
  · isplitl [Ha]
    · iexact Ha
    · iexact Hr
  iintro H
  iapply HQ
  isplitl [Hk]
  · iexact Hk
  isplitl [Hv]
  · iexact Hv
  isplitl [Hu]
  · iexact Hu
  iexact H

theorem storeOut_spec (g : Memref sig .tc .vmem S1x512 .f32) (acc : Memref sig .tc .vmem S4x256x128 .f32) (out : Memref sig .tc .vmem S1x4096x512 .bf16)
    (b : Fin 16) (o0 o1 o2 o3 : Fin 3 → ℕ) (h0 : InB o0) (h1 : InB o1) (h2 : InB o2) (h3 : InB o3) (ho : Offs b.val o0 o1 o2 o3) (s0 s1 s2 s3)
    (G : Vec F S1x512 .f32) (s : St F) (o : Fin 16 → Fin 4 → Vec F S1x256x128 .bf16) (Q : PUnit → sProp 𝕄) :
    iprop(own c g G ∗ own c acc (asm s.acc) ∗ own c out (asmO o))
      ⊢ iprop((iprop(own c g G ∗ own c acc (asm s.acc) ∗ own c out (asmO (Function.update o b (s.out G)))) -∗ Q ⟨⟩)
        -∗ W (F := F) c bd (storeOut g acc out o0 o1 o2 o3 h0 h1 h2 h3 s0 s1 s2 s3) Q) := by
  obtain ⟨e0, e1, e2, e3⟩ := ho
  iintro ⟨Hg, Ha, Ho⟩ HQ
  unfold storeOut
  simp only [wp_bind]
  iapply (ldG_spec c bd g G) $$ Hg
  iintro Hg
  iapply (ldS_spec c bd acc s.acc 0 ![0, 0, 0] rfl) $$ Ha
  iintro Ha
  iapply (ldB_spec c bd out _ b.val 0 o0 e0 h0) $$ Ho
  iintro Ho
  iapply (stB_spec c bd out _ b 0 o0 e0 h0) $$ Ho
  iintro Ho
  iapply (ldS_spec c bd acc s.acc 1 ![1, 0, 0] rfl) $$ Ha
  iintro Ha
  iapply (ldB_spec c bd out _ b.val 1 o1 e1 h1) $$ Ho
  iintro Ho
  iapply (stB_spec c bd out _ b 1 o1 e1 h1) $$ Ho
  iintro Ho
  iapply (ldS_spec c bd acc s.acc 2 ![2, 0, 0] rfl) $$ Ha
  iintro Ha
  iapply (ldB_spec c bd out _ b.val 2 o2 e2 h2) $$ Ho
  iintro Ho
  iapply (stB_spec c bd out _ b 2 o2 e2 h2) $$ Ho
  iintro Ho
  iapply (ldS_spec c bd acc s.acc 3 ![3, 0, 0] rfl) $$ Ha
  iintro Ha
  iapply (ldB_spec c bd out _ b.val 3 o3 e3 h3) $$ Ho
  iintro Ho
  iapply (stB_spec c bd out _ b 3 o3 e3 h3) $$ Ho
  iintro Ho
  simp only [Function.update_self, Function.update_idem]
  rw [update4]
  have e : ![outOf (s.acc 0) (gain0 G), outOf (s.acc 1) (gain1 G), outOf (s.acc 2) (gain2 G), outOf (s.acc 3) (gain3 G)] = s.out G := fun4 (s.out G)
  rw [e]
  iapply HQ
  isplitl [Hg]
  · iexact Hg
  isplitl [Ha]
  · iexact Ha
  iexact Ho

end Ops

end Cert.KernelIdeal.Att
-- ==== Proof.PI.Body.lean ====
/-
  What the kernel's body does to the buffers it is handed: the result buffer comes to hold, block by block, the results
  of the model (`blockOut`).
-/
module

public import proofs.«01_k».proof.Proof.PI.Sweep

@[expose] public section

set_option synthInstance.maxSize 4096

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal Cert.KernelIdeal.Gen

variable {F : FTy → Type} [FloatOps F] [Named F]

local notation "𝕄" => MT nD τ sig Unit (Elt F) ℕ (UR sig nD τ) ℕ

/-! ## The walk over the older blocks -/

/-- With `j` blocks left the walk reads block `j - 1`, which lies inside the buffers, and goes on while its flag is set; -/
theorem older_off : ∀ (t : Fin k0_t1_loop.trips) (j : Fin 15), j.val < t.val →
    (Offs j.val (k0_off9 t (BitVec.ofNat 32 (t.val - j.val))) (k0_off10 t (BitVec.ofNat 32 (t.val - j.val)))
        (k0_off11 t (BitVec.ofNat 32 (t.val - j.val))) (k0_off12 t (BitVec.ofNat 32 (t.val - j.val)))
      ∧ k0_chk1 t (BitVec.ofNat 32 (t.val - j.val)))
    ∧ ∀ f : BitVec 1, Scalar.andi (Scalar.cmpi .slt (BitVec.ofNat 32 (t.val - j.val)) (Scf.iv 1#32 1#32 t)) f = f := by
  decide +kernel

/-- with none left it ends. -/
theorem older_end : ∀ (t : Fin k0_t1_loop.trips) (f : BitVec 1),
    Scalar.andi (Scalar.cmpi .slt (BitVec.ofNat 32 (t.val + 1)) (Scf.iv 1#32 1#32 t)) f = 0#1 := by
  decide +kernel

theorem trips_le : ∀ t : Fin k0_t1_loop.trips, t.val < 15 := by decide +kernel

section Older

variable (c : Dev nD)

/-- What the walk does: from the state `s` it comes to the state `run` says. -/
def walk (k v : Memref sig .tc .vmem S1x4096x512 .bf16) (acc r : Memref sig .tc .vmem S4x256x128 .f32) (K V : Vec F S1x4096x512 .bf16)
    (s : St F) (res : St F × BitVec 32 × BitVec 1) : sWPT 𝕄 (BitVec 32 × BitVec 1) := do
  sWPT.consume iprop(own c k K ∗ own c v V ∗ stOwn c acc r s)
  sWPT.produce iprop(own c k K ∗ own c v V ∗ stOwn c acc r res.1)
  pure (res.2.1, res.2.2)

theorem walk_apply (k v : Memref sig .tc .vmem S1x4096x512 .bf16) (acc r : Memref sig .tc .vmem S4x256x128 .f32) (K V : Vec F S1x4096x512 .bf16)
    (s : St F) (res : St F × BitVec 32 × BitVec 1) (Q) :
    walk c k v acc r K V s res Q
      = iprop(iprop(own c k K ∗ own c v V ∗ stOwn c acc r s) ∗ (iprop(own c k K ∗ own c v V ∗ stOwn c acc r res.1) -∗ Q (res.2.1, res.2.2))) := rfl

theorem walk_le (i : grid0.Coords) (l : BitVec 1) (t : Fin k0_t1_loop.trips)
    (k : Memref sig .tc .vmem S1x4096x512 .bf16) (hk : k.IsWhole) (v : Memref sig .tc .vmem S1x4096x512 .bf16) (hv : v.IsWhole)
    (r : Memref sig .tc .vmem S4x256x128 .f32) (hr : r.IsWhole) (acc : Memref sig .tc .vmem S4x256x128 .f32) (hacc : acc.IsWhole)
    (qq : Fin 4 → FVec F S256x128 .bf16) (K V : Vec F S1x4096x512 .bf16) :
    ∀ j, j ≤ t.val → ∀ (n : BitVec 32), n = BitVec.ofNat 32 (t.val + 1 - j) → ∀ (f : BitVec 1) (s : St F) (Q),
      walk c k v acc r K V s (run K V qq j n s f) Q
        ⊢ wp frame (wpE (defs₀ (F := F)) 𝒱₀ (c : Thread nD τ) (some j)) Set.univ
            (defs₀ (F := F) .tc 1 ⟨i, l, t, k, hk, v, hv, qq 0, qq 1, qq 2, qq 3, tri, r, hr, acc, hacc, n, f⟩) Q := by
  intro j
  induction j with
  | zero =>
    intro _ n hn f s Q
    rw [walk_apply]
    show _ ⊢ W (F := F) c (some 0) (cc0_while1 (F := F) i l t k hk v hv (qq 0) (qq 1) (qq 2) (qq 3) tri r hr acc hacc n f) Q
    rw [older_eq]
    unfold older
    subst hn
    rw [Nat.sub_zero, older_end, if_neg (by decide)]
    rw [show run K V qq 0 (BitVec.ofNat 32 (t.val + 1)) s f = (s, BitVec.ofNat 32 (t.val + 1), f) from rfl]
    iintro ⟨H, HQ⟩
    rw [Prog.pure_eq_ret]
    unfold W
    rw [wp_ret]
    imodintro
    iapply HQ
    iexact H
  | succ j ih =>
    intro hj n hn f s Q
    rw [walk_apply]
    show _ ⊢ W (F := F) c (some (j + 1)) (cc0_while1 (F := F) i l t k hk v hv (qq 0) (qq 1) (qq 2) (qq 3) tri r hr acc hacc n f) Q
    rw [older_eq]
    unfold older
    have hn' : n = BitVec.ofNat 32 (t.val - j) := by rw [hn]; congr 1; omega
    obtain ⟨⟨hoff, hchk⟩, hf⟩ := older_off t ⟨j, lt_of_lt_of_le hj (trips_le t).le⟩ hj
    have hstep : Scalar.addi n 1#32 = BitVec.ofNat 32 (t.val + 1 - j) := by
      rw [hn']
      have e : t.val + 1 - j = (t.val - j) + 1 := by omega
      rw [e, BitVec.ofNat_add]
      rfl
    subst hn'
    rw [hf f]
    by_cases h1 : f = 1#1
    · rw [if_pos h1]
      have hrun : run K V qq (j + 1) (BitVec.ofNat 32 (t.val - j)) s f
          = run K V qq j (Scalar.addi (BitVec.ofNat 32 (t.val - j)) 1#32) (s.step dAcc dR qq (blk K j) (blk V j)) (s.step dAcc dR qq (blk K j) (blk V j)).live := by
        show (if f = 1#1 then _ else _) = _
        rw [if_pos h1]
      rw [hrun]
      simp only [wp_bind]
      iintro ⟨⟨Hk, Hv, Hs⟩, HQ⟩
      iapply (wp_assume 𝒱₀ (c : Thread nD τ) (some (j + 1)) Set.univ hchk)
      rw [wp_ret]
      imodintro
      iapply (sweep1_spec c (some (j + 1)) dAcc dR k v acc r j _ _ _ _ _ _ _ _ hoff qq K V s) $$ [Hk Hv Hs]
      · isplitl [Hk]
        · iexact Hk
        isplitl [Hv]
        · iexact Hv
        iexact Hs
      iintro ⟨Hk, Hv, Ha, Hr⟩
      iapply (ldS4_spec c (some (j + 1)) r _) $$ Hr
      iintro Hr
      iapply (wp_call_spec 𝒱₀ (c : Thread nD τ) (some (j + 1)) Set.univ
        (walk c k v acc r K V (s.step dAcc dR qq (blk K j) (blk V j))
          (run K V qq j (Scalar.addi (BitVec.ofNat 32 (t.val - j)) 1#32) (s.step dAcc dR qq (blk K j) (blk V j)) (s.step dAcc dR qq (blk K j) (blk V j)).live)) j
        (fun u hu => by cases hu; exact Nat.lt_succ_self j)
        (ih (Nat.le_of_succ_le hj) _ hstep _ _))
      rw [walk_apply]
      isplitl [Hk Hv Ha Hr]
      · isplitl [Hk]
        · iexact Hk
        isplitl [Hv]
        · iexact Hv
        isplitl [Ha]
        · iexact Ha
        iexact Hr
      iintro H
      rw [wp_ret]
      imodintro
      iapply HQ
      iexact H
    · rw [if_neg h1]
      have hrun : run K V qq (j + 1) (BitVec.ofNat 32 (t.val - j)) s f = (s, BitVec.ofNat 32 (t.val - j), f) := by
        show (if f = 1#1 then _ else _) = _
        rw [if_neg h1]
      rw [hrun]
      iintro ⟨H, HQ⟩
      rw [Prog.pure_eq_ret]
      unfold W
      rw [wp_ret]
      imodintro
      iapply HQ
      iexact H

end Older

/-! ## The first block, the other blocks, and the whole -/

section Blocks

variable (c : Dev nD) (arg2 : Memref sig .tc .vmem S1x4096x512 .bf16) (harg2 : arg2.IsWhole) (arg3 : Memref sig .tc .vmem S1x4096x512 .bf16) (harg3 : arg3.IsWhole) (arg4 : Memref sig .tc .vmem S1x4096x512 .bf16) (harg4 : arg4.IsWhole) (arg5 : Memref sig .tc .vmem S1x128x512 .bf16) (harg5 : arg5.IsWhole) (arg6 : Memref sig .tc .vmem S1x128x512 .bf16) (harg6 : arg6.IsWhole) (arg7 : Memref sig .tc .vmem S1x512 .f32) (harg7 : arg7.IsWhole) (arg8 : Memref sig .tc .vmem S1x4096x512 .bf16) (harg8 : arg8.IsWhole) (arg9 : Memref sig .tc .vmem S256x256 .bf16) (harg9 : arg9.IsWhole) (arg10 : Memref sig .tc .vmem S128x128 .bf16) (harg10 : arg10.IsWhole) (arg11 : Memref sig .tc .vmem S4x256x128 .f32) (harg11 : arg11.IsWhole) (arg12 : Memref sig .tc .vmem S4x256x128 .f32) (harg12 : arg12.IsWhole)
  (Q K V : Vec F S1x4096x512 .bf16) (KC VC : Vec F S1x128x512 .bf16) (G : Vec F S1x512 .f32)

/-- The operands, and the two matrices of the running sums. -/
abbrev ins : sProp 𝕄 :=
  iprop(own c arg2 Q ∗ own c arg3 K ∗ own c arg4 V ∗ own c arg5 KC ∗ own c arg6 VC ∗ own c arg7 G ∗ own c arg9 (tri (F := F)) ∗ own c arg10 (triC (F := F)))

/-- The meta tokens' sweep, if the flag is set. -/
theorem iteC_spec (l : BitVec 1) (qq : Fin 4 → FVec F S256x128 .bf16) (s : St F) {α : Type} (m : KProg F α) (R : α → sProp 𝕄) :
    iprop(own c arg5 KC ∗ own c arg6 VC ∗ own c arg10 triC ∗ stOwn c arg11 arg12 s)
      ⊢ iprop((iprop(own c arg5 KC ∗ own c arg6 VC ∗ own c arg10 triC ∗ stOwn c arg11 arg12 (if on l then s.stepC qq (blkC KC) (blkC VC) else s)) -∗ W (F := F) c none m R)
        -∗ W (F := F) c none (if on l then (do sweepC arg5 arg6 arg10 arg11 arg12 (qq 0) (qq 1) (qq 2) (qq 3); m) else m) R) := by
  iintro H HR
  by_cases h : on l
  · rw [if_pos h, if_pos h]
    simp only [wp_bind]
    iapply (sweepC_spec c none arg5 arg6 arg10 arg11 arg12 qq KC VC s) $$ H
    iintro H
    iapply HR
    iexact H
  · rw [if_neg h, if_neg h]
    iapply HR
    iexact H

/-- A block's results written once more, if the flag is set. -/
theorem iteO_spec (l : BitVec 1) (b : Fin 16) (o0 o1 o2 o3 : Fin 3 → ℕ) (h0 : InB o0) (h1 : InB o1) (h2 : InB o2) (h3 : InB o3)
    (ho : Offs b.val o0 o1 o2 o3) (s0 s1 s2 s3) (s : St F) (o : Fin 16 → Fin 4 → Vec F S1x256x128 .bf16) (x : Fin 4 → Vec F S1x256x128 .bf16) {α : Type} (m : KProg F α) (R : α → sProp 𝕄) :
    iprop(own c arg7 G ∗ own c arg11 (asm s.acc) ∗ own c arg8 (asmO (Function.update o b x)))
      ⊢ iprop((iprop(own c arg7 G ∗ own c arg11 (asm s.acc) ∗ own c arg8 (asmO (Function.update o b (if on l then s.out G else x)))) -∗ W (F := F) c none m R)
        -∗ W (F := F) c none (if on l then (do storeOut arg7 arg11 arg8 o0 o1 o2 o3 h0 h1 h2 h3 s0 s1 s2 s3; m) else m) R) := by
  iintro H HR
  by_cases h : on l
  · rw [if_pos h, if_pos h]
    simp only [wp_bind]
    iapply (storeOut_spec c none arg7 arg11 arg8 b o0 o1 o2 o3 h0 h1 h2 h3 ho s0 s1 s2 s3 G s _) $$ H
    iintro H
    rw [Function.update_idem]
    iapply HR
    iexact H
  · rw [if_neg h, if_neg h]
    iapply HR
    iexact H

theorem first_spec (o : Fin 16 → Fin 4 → Vec F S1x256x128 .bf16) (A B : Vec F S4x256x128 .f32) (kk : BitVec 1 → KProg F PUnit) (R : PUnit → sProp 𝕄) :
    iprop(ins c arg2 arg3 arg4 arg5 arg6 arg7 arg9 arg10 Q K V KC VC G ∗ own c arg8 (asmO o) ∗ own c arg11 A ∗ own c arg12 B)
      ⊢ iprop((∀ l, iprop(ins c arg2 arg3 arg4 arg5 arg6 arg7 arg9 arg10 Q K V KC VC G ∗ own c arg8 (asmO (Function.update o 0 (blockOut Q K V KC VC G 0)))
            ∗ ∃ s, stOwn c arg11 arg12 s) -∗ W (F := F) c none (kk l) R)
        -∗ W (F := F) c none (first (F := F) arg2 harg2 arg3 harg3 arg4 harg4 arg5 harg5 arg6 harg6 arg7 harg7 arg8 harg8 arg9 harg9 arg10 harg10 arg11 harg11 arg12 harg12 kk) R) := by
  iintro ⟨⟨Hq, Hk, Hv, Hkc, Hvc, Hg, Hu, Huc⟩, Ho, Ha, Hr⟩ HR
  unfold first
  iapply (heads_spec c none arg2 0 _ _ _ _ _ _ _ _ ⟨rfl, rfl, rfl, rfl⟩ arg11 arg12 _ Q A B R) $$ [Hq Ha Hr]
  · isplitl [Hq]
    · iexact Hq
    isplitl [Ha]
    · iexact Ha
    iexact Hr
  iintro ⟨Hq, Hs⟩
  simp only [wp_bind]
  iapply (ldU_spec c none arg9 tri) $$ Hu
  iintro Hu
  iapply (sweep1_spec c none (oAcc before) (oR before) arg3 arg4 arg11 arg12 0 _ _ _ _ _ _ _ _ ⟨rfl, rfl, rfl, rfl⟩ (qs Q 0) K V St.zero) $$ [Hk Hv Hs]
  · isplitl [Hk]
    · iexact Hk
    isplitl [Hv]
    · iexact Hv
    iexact Hs
  iintro ⟨Hk, Hv, Ha, Hr⟩
  iapply (storeOut_spec c none arg7 arg11 arg8 0 _ _ _ _ _ _ _ _ ⟨rfl, rfl, rfl, rfl⟩ _ _ _ _ G (start Q K V 0) o) $$ [Hg Ha Ho]
  · isplitl [Hg]
    · iexact Hg
    isplitl [Ha]
    · iexact Ha
    iexact Ho
  iintro ⟨Hg, Ha, Ho⟩
  iapply (ldS4_spec c none arg12 _) $$ Hr
  iintro Hr
  iapply (iteC_spec c arg5 arg6 arg10 arg11 arg12 KC VC (start Q K V 0).live (qs Q 0) (start Q K V 0)) $$ [Hkc Hvc Huc Ha Hr]
  · isplitl [Hkc]
    · iexact Hkc
    isplitl [Hvc]
    · iexact Hvc
    isplitl [Huc]
    · iexact Huc
    isplitl [Ha]
    · iexact Ha
    iexact Hr
  iintro ⟨Hkc, Hvc, Huc, Ha, Hr⟩
  iapply (iteO_spec c arg7 arg8 arg11 G (start Q K V 0).live 0 _ _ _ _ _ _ _ _ ⟨rfl, rfl, rfl, rfl⟩ _ _ _ _ _ o _) $$ [Hg Ha Ho]
  · isplitl [Hg]
    · iexact Hg
    isplitl [Ha]
    · iexact Ha
    iexact Ho
  iintro ⟨Hg, Ha, Ho⟩
  iapply HR
  isplitl [Hq Hk Hv Hkc Hvc Hg Hu Huc]
  · isplitl [Hq]
    · iexact Hq
    isplitl [Hk]
    · iexact Hk
    isplitl [Hv]
    · iexact Hv
    isplitl [Hkc]
    · iexact Hkc
    isplitl [Hvc]
    · iexact Hvc
    isplitl [Hg]
    · iexact Hg
    isplitl [Hu]
    · iexact Hu
    iexact Huc
  isplitl [Ho]
  · iexact Ho
  iexists _
  isplitl [Ha]
  · iexact Ha
  iexact Hr

/-- The sixteen blocks, the first included. -/
theorem rest_offs : ∀ t : Fin k0_t1_loop.trips, (Offs (t.val + 1) (k0_off1 t) (k0_off2 t) (k0_off3 t) (k0_off4 t)
    ∧ Offs t.val (k0_off5 t) (k0_off6 t) (k0_off7 t) (k0_off8 t)) ∧ Offs (t.val + 1) (k0_off13 t) (k0_off14 t) (k0_off15 t) (k0_off16 t) := by
  decide +kernel

theorem rest_spec (i : grid0.Coords) (l : BitVec 1) (t : Fin k0_t1_loop.trips) (o : Fin 16 → Fin 4 → Vec F S1x256x128 .bf16) (R : Unit → sProp 𝕄) :
    iprop(ins c arg2 arg3 arg4 arg5 arg6 arg7 arg9 arg10 Q K V KC VC G ∗ own c arg8 (asmO o) ∗ ∃ s, stOwn c arg11 arg12 s)
      ⊢ iprop((iprop(ins c arg2 arg3 arg4 arg5 arg6 arg7 arg9 arg10 Q K V KC VC G
            ∗ own c arg8 (asmO (Function.update o ⟨t.val + 1, Nat.succ_lt_succ (trips_le t)⟩ (blockOut Q K V KC VC G (t.val + 1))))
            ∗ ∃ s, stOwn c arg11 arg12 s) -∗ R ())
        -∗ W (F := F) c none (rest (F := F) i arg2 harg2 arg3 harg3 arg4 harg4 arg5 harg5 arg6 harg6 arg7 harg7 arg8 harg8 arg9 harg9 arg10 harg10 arg11 harg11 arg12 harg12 before l t) R) := by
  obtain ⟨⟨ho, hp⟩, ho'⟩ := rest_offs t
  iintro ⟨⟨Hq, Hk, Hv, Hkc, Hvc, Hg, Hu, Huc⟩, Ho, ⟨%s₀, Ha, Hr⟩⟩ HR
  unfold rest restA W
  rw [wp_bind]
  iapply (heads_spec c none arg2 (t.val + 1) _ _ _ _ _ _ _ _ ho arg11 arg12 _ Q _ _ _) $$ [Hq Ha Hr]
  · isplitl [Hq]
    · iexact Hq
    isplitl [Ha]
    · iexact Ha
    iexact Hr
  iintro ⟨Hq, Hs⟩
  simp only [wp_bind]
  iapply (ldU_spec c none arg9 tri) $$ Hu
  iintro Hu
  iapply (sweep2_spec c none arg3 arg4 arg11 arg12 (t.val + 1) t.val _ _ _ _ _ _ _ _ ho _ _ _ _ _ _ _ _ hp (qs Q (t.val + 1)) K V St.zero) $$ [Hk Hv Hs]
  · isplitl [Hk]
    · iexact Hk
    isplitl [Hv]
    · iexact Hv
    iexact Hs
  iintro ⟨Hk, Hv, Ha, Hr⟩
  iapply (storeOut_spec c none arg7 arg11 arg8 ⟨t.val + 1, Nat.succ_lt_succ (trips_le t)⟩ _ _ _ _ _ _ _ _ ho _ _ _ _ G (start Q K V (t.val + 1)) o) $$ [Hg Ha Ho]
  · isplitl [Hg]
    · iexact Hg
    isplitl [Ha]
    · iexact Ha
    iexact Ho
  iintro ⟨Hg, Ha, Ho⟩
  iapply (ldS4_spec c none arg12 _) $$ Hr
  iintro Hr
  iapply (wp_call_spec 𝒱₀ (c : Thread nD τ) none Set.univ
    (walk c arg3 arg4 arg11 arg12 K V (start Q K V (t.val + 1)) (walked Q K V (t.val + 1))) t.val (fun u hu => nomatch hu)
    (walk_le c i l t arg3 harg3 arg4 harg4 arg12 harg12 arg11 harg11 (qs Q (t.val + 1)) K V t.val le_rfl 1#32
      (by rw [Nat.add_sub_cancel_left]) _ _))
  rw [walk_apply]
  isplitl [Hk Hv Ha Hr]
  · isplitl [Hk]
    · iexact Hk
    isplitl [Hv]
    · iexact Hv
    isplitl [Ha]
    · iexact Ha
    iexact Hr
  iintro ⟨Hk, Hv, Ha, Hr⟩
  rw [wp_ret]
  imodintro
  iapply (iteC_spec c arg5 arg6 arg10 arg11 arg12 KC VC (walked Q K V (t.val + 1)).2.2 (qs Q (t.val + 1)) (walked Q K V (t.val + 1)).1) $$ [Hkc Hvc Huc Ha Hr]
  · isplitl [Hkc]
    · iexact Hkc
    isplitl [Hvc]
    · iexact Hvc
    isplitl [Huc]
    · iexact Huc
    isplitl [Ha]
    · iexact Ha
    iexact Hr
  iintro ⟨Hkc, Hvc, Huc, Ha, Hr⟩
  unfold W
  rw [Prog.pure_eq_ret, wp_ret]
  imodintro
  iapply (iteO_spec c arg7 arg8 arg11 G (start Q K V (t.val + 1)).live ⟨t.val + 1, Nat.succ_lt_succ (trips_le t)⟩ _ _ _ _ _ _ _ _ ho' _ _ _ _ _ o _) $$ [Hg Ha Ho]
  · isplitl [Hg]
    · iexact Hg
    isplitl [Ha]
    · iexact Ha
    iexact Ho
  iintro ⟨Hg, Ha, Ho⟩
  unfold W
  rw [Prog.pure_eq_ret, wp_ret]
  imodintro
  iapply HR
  isplitl [Hq Hk Hv Hkc Hvc Hg Hu Huc]
  · isplitl [Hq]
    · iexact Hq
    isplitl [Hk]
    · iexact Hk
    isplitl [Hv]
    · iexact Hv
    isplitl [Hkc]
    · iexact Hkc
    isplitl [Hvc]
    · iexact Hvc
    isplitl [Hg]
    · iexact Hg
    isplitl [Hu]
    · iexact Hu
    iexact Huc
  isplitl [Ho]
  · iexact Ho
  iexists _
  isplitl [Ha]
  · iexact Ha
  iexact Hr

/-- Before trip `k` the blocks up to `k` hold their results. -/
def inv (k : ℕ) : sProp 𝕄 :=
  iprop(ins c arg2 arg3 arg4 arg5 arg6 arg7 arg9 arg10 Q K V KC VC G
    ∗ (∃ o : Fin 16 → Fin 4 → Vec F S1x256x128 .bf16, ⌜∀ b : Fin 16, b.val ≤ k → o b = blockOut Q K V KC VC G b.val⌝ ∗ own c arg8 (asmO o))
    ∗ ∃ s, stOwn c arg11 arg12 s)

theorem trip_spec (i : grid0.Coords) (l : BitVec 1) (t : Fin k0_t1_loop.trips) (u : Unit) :
    inv c arg2 arg3 arg4 arg5 arg6 arg7 arg8 arg9 arg10 arg11 arg12 Q K V KC VC G t.val
      ⊢ W (F := F) c none (k0_t1_body (F := F) i arg2 harg2 arg3 harg3 arg4 harg4 arg5 harg5 arg6 harg6 arg7 harg7 arg8 harg8 arg9 harg9 arg10 harg10 arg11 harg11 arg12 harg12 before l t u)
          (fun _ => inv c arg2 arg3 arg4 arg5 arg6 arg7 arg8 arg9 arg10 arg11 arg12 Q K V KC VC G (t.val + 1)) := by
  cases u
  rw [body_eq]
  unfold inv
  iintro ⟨Hi, ⟨%o, %ho, Ho⟩, Hs⟩
  iapply (rest_spec c arg2 harg2 arg3 harg3 arg4 harg4 arg5 harg5 arg6 harg6 arg7 harg7 arg8 harg8 arg9 harg9 arg10 harg10 arg11 harg11 arg12 harg12 Q K V KC VC G i l t o) $$ [Hi Ho Hs]
  · isplitl [Hi]
    · iexact Hi
    isplitl [Ho]
    · iexact Ho
    iexact Hs
  iintro ⟨Hi, Ho, Hs⟩
  isplitl [Hi]
  · iexact Hi
  isplitl [Ho]
  · iexists _
    isplitr
    swap
    · iexact Ho
    · ipureintro
      intro b hb
      by_cases e : b = ⟨t.val + 1, Nat.succ_lt_succ (trips_le t)⟩
      · subst e
        rw [Function.update_self]
      · rw [Function.update_of_ne e]
        exact ho b (Nat.le_of_lt_succ (lt_of_le_of_ne hb fun h => e (Fin.ext h)))
  iexact Hs

theorem trips_eq : k0_t1_loop.trips = 15 := by decide +kernel

/-- The kernel's body: from the operands and any contents of the result and of the scratch buffers, the result comes to
    hold the model's blocks. -/
theorem body_spec (i : grid0.Coords) (X : Vec F S1x4096x512 .bf16) (U : Vec F S256x256 .bf16) (UC : Vec F S128x128 .bf16) (A B : Vec F S4x256x128 .f32)
    (R : PUnit → sProp 𝕄) :
    iprop((own c arg2 Q ∗ own c arg3 K ∗ own c arg4 V ∗ own c arg5 KC ∗ own c arg6 VC ∗ own c arg7 G ∗ own c arg9 U ∗ own c arg10 UC)
        ∗ own c arg8 X ∗ own c arg11 A ∗ own c arg12 B)
      ⊢ iprop((iprop(ins c arg2 arg3 arg4 arg5 arg6 arg7 arg9 arg10 Q K V KC VC G ∗ own c arg8 (asmO fun b => blockOut Q K V KC VC G b.val)
            ∗ ∃ s, stOwn c arg11 arg12 s) -∗ R ⟨⟩)
        -∗ W (F := F) c none (cc0_sb_attention (F := F) i arg2 harg2 arg3 harg3 arg4 harg4 arg5 harg5 arg6 harg6 arg7 harg7 arg8 harg8 arg9 harg9 arg10 harg10 arg11 harg11 arg12 harg12) R) := by
  rw [kernel_eq]
  obtain ⟨o, rfl⟩ := asmO_surj X
  iintro ⟨⟨Hq, Hk, Hv, Hkc, Hvc, Hg, Hu, Huc⟩, Ho, Ha, Hr⟩ HR
  unfold whole
  simp only [wp_bind]
  iapply (ldU_spec c none arg9 U) $$ Hu
  iintro Hu
  iapply (stU_spec c none arg9 harg9 U tri) $$ Hu
  iintro Hu
  iapply (ldUC_spec c none arg10 UC) $$ Huc
  iintro Huc
  iapply (stUC_spec c none arg10 harg10 UC triC) $$ Huc
  iintro Huc
  iapply (first_spec c arg2 harg2 arg3 harg3 arg4 harg4 arg5 harg5 arg6 harg6 arg7 harg7 arg8 harg8 arg9 harg9 arg10 harg10 arg11 harg11 arg12 harg12 Q K V KC VC G o A B _ R) $$ [Hq Hk Hv Hkc Hvc Hg Hu Huc Ho Ha Hr]
  · isplitl [Hq Hk Hv Hkc Hvc Hg Hu Huc]
    · isplitl [Hq]
      · iexact Hq
      isplitl [Hk]
      · iexact Hk
      isplitl [Hv]
      · iexact Hv
      isplitl [Hkc]
      · iexact Hkc
      isplitl [Hvc]
      · iexact Hvc
      isplitl [Hg]
      · iexact Hg
      isplitl [Hu]
      · iexact Hu
      iexact Huc
    isplitl [Ho]
    · iexact Ho
    isplitl [Ha]
    · iexact Ha
    iexact Hr
  iintro %l ⟨Hi, Ho, Hs⟩
  iapply (Scf.wp_for_bind frame (wpE (defs₀ (F := F)) 𝒱₀ (c : Thread nD τ) none) Set.univ _ _ _ k0_t1_ok _ _
    (fun k _ => inv c arg2 arg3 arg4 arg5 arg6 arg7 arg8 arg9 arg10 arg11 arg12 Q K V KC VC G k)
    (fun t u => trip_spec c arg2 harg2 arg3 harg3 arg4 harg4 arg5 harg5 arg6 harg6 arg7 harg7 arg8 harg8 arg9 harg9 arg10 harg10 arg11 harg11 arg12 harg12 Q K V KC VC G i l t u)) $$ [Hi Ho Hs]
  · unfold inv
    isplitl [Hi]
    · iexact Hi
    isplitl [Ho]
    · iexists _
      isplitr
      swap
      · iexact Ho
      · ipureintro
        intro b hb
        have e : b = 0 := Fin.ext (Nat.le_zero.1 hb)
        subst e
        rw [Function.update_self]
        rfl
    iexact Hs
  iintro %u Hinv
  unfold inv
  icases Hinv with ⟨Hi, ⟨%o', %ho', Ho⟩, Hs⟩
  have e : o' = fun b => blockOut Q K V KC VC G b.val := funext fun b => ho' b (by
    have h1 := b.isLt
    have h2 := trips_eq
    have h3 : k0_t1_loop.trips = Scf.trips k0_t1_loop.lb k0_t1_loop.ub k0_t1_loop.st := rfl
    omega)
  subst e
  rw [Prog.pure_eq_ret, wp_ret]
  imodintro
  iapply HR
  isplitl [Hi]
  · iexact Hi
  isplitl [Ho]
  · iexact Ho
  iexact Hs

end Blocks

end Cert.KernelIdeal.Att
-- ==== Proof.PI.Run.lean ====
module

public import proofs.«01_k».proof.Proof.PI.Body
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.Quiescent
public import Idealize.ShloMosaic.Lib.Tactic
public meta import Idealize.ShloMosaic.Lib.Tactic

/-! # The launch: host operations, the grid of sixteen points, and the frame -/

@[expose] public section

set_option synthInstance.maxSize 4096

noncomputable section

namespace Cert.KernelIdeal.Att

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Idealize.ShloMosaic.Tactic
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The launch state: memory as given, every counter at zero. -/
abbrev s₀ : MemSt nD τ sig (Elt F) := ⟨m, fun _ => 0, ρ⟩

/-- What a reference holds once the host operations before the kernel have run. -/
def V (c : Dev nD) (b : Ref sig .tc) : Buf (Elt F) ((c : Thread nD τ).loc b) :=
  StableHlo.after hostOps0 (fun b => m (c, b)) b

/-- The host operations take no fresh buffer. -/
theorem hostOps0_fresh : (hostOps0 : List (HloOp τ sig (Elt F))).Forall fun op => op.fresh = ∅ := by
  refine ⟨?_, ?_, ?_, ?_, ?_, ?_, ?_⟩ <;> rfl

/-- The program is its host operations followed by the kernel's region, entered at `V`. -/
theorem hmain : Pipeline.HMain (Ix := Unit) (Name := ℕ) (U := UR sig nD τ) (Lvl := ℕ) cfgs (0 : Fin 1) defs₀ 𝒱₀ m (main (F := F)) (V m) :=
  Pipeline.hmain_prefix cfgs 0 defs₀ 𝒱₀ m main hostOps0 hostOps0_sub hostOps0_fresh main_chain

/-- A reference no host operation writes is found as launched. -/
theorem V_keep (c : Dev nD) (b : Ref sig .tc)
    (h : b ≠ main_cst ∧ b ≠ main_v0 ∧ b ≠ main_cst_0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    obtain ⟨h0, h1, h2, h3, h4, h5, h6⟩ := h
    simp only [hostOps0, List.Forall, StableHlo.nullary_writes, StableHlo.unary_writes, StableHlo.binary_writes,
      Finset.mem_singleton]
    refine ⟨?_, ?_, ?_, ?_, ?_, ?_, ?_⟩
    all_goals exact StableHlo.devRef_ne_of_ne (by assumption)))

/-- Window `w`'s block at point `t`, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The output block of a grid point, from the blocks of its operands. -/
def ptOut (Q K V : Vec F S1x4096x512 .bf16) (KC VC : Vec F S1x128x512 .bf16) (G : Vec F S1x512 .f32) :
    Vec F S1x4096x512 .bf16 := asmO fun b => blockOut Q K V KC VC G b.val

/-- The kernel's proof data: the operand windows keep their blocks, the output window ends at `ptOut` of them. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => ptOut (iblk m c 0 t) (iblk m c 1 t) (iblk m c 2 t) (iblk m c 3 t) (iblk m c 4 t) (iblk m c 5 t)
  Φ _ := Pipeline.ΦA spec0 c
  q _ := fullShare
  owed _ := 0

theorem after0_0 (c : Dev nD) (t) : (dats m 0 c).after 0 t = iblk m c 0 t := rfl
theorem after0_1 (c : Dev nD) (t) : (dats m 0 c).after 1 t = iblk m c 1 t := rfl
theorem after0_2 (c : Dev nD) (t) : (dats m 0 c).after 2 t = iblk m c 2 t := rfl
theorem after0_3 (c : Dev nD) (t) : (dats m 0 c).after 3 t = iblk m c 3 t := rfl
theorem after0_4 (c : Dev nD) (t) : (dats m 0 c).after 4 t = iblk m c 4 t := rfl
theorem after0_5 (c : Dev nD) (t) : (dats m 0 c).after 5 t = iblk m c 5 t := rfl
theorem after0_6 (c : Dev nD) (t) : (dats m 0 c).after 6 t
    = ptOut (iblk m c 0 t) (iblk m c 1 t) (iblk m c 2 t) (iblk m c 3 t) (iblk m c 4 t) (iblk m c 5 t) := rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rfl) t d).trans
    (by unfold Dat.fetched Dat.blockOf iblk; rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rfl) t d).trans
    (by unfold Dat.fetched Dat.blockOf iblk; rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rfl) t d).trans
    (by unfold Dat.fetched Dat.blockOf iblk; rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rfl) t d).trans
    (by unfold Dat.fetched Dat.blockOf iblk; rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rfl) t d).trans
    (by unfold Dat.fetched Dat.blockOf iblk; rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rfl) t d).trans
    (by unfold Dat.fetched Dat.blockOf iblk; rfl)

/-- A whole buffer owned is the buffer. -/
theorem own_buf (c : Dev nD) (b : Ref sig .tc) (X : b.ty.Contents (Elt F)) :
    (owns (c : Thread nD τ) (Memref.whole b) fullShare X : sProp 𝕄) ⊢ iprop(((c : Thread nD τ).loc b) ↦{fullShare} X) := by
  rw [owns_whole]

set_option backward.isDefEq.respectTransparency.types false in
/-- At every grid point the body takes the operand blocks to the output block. -/
theorem body_obligation (c : Dev nD) : BodyObligation (dats (F := F) m 0 c) (defs₀ (F := F)) 𝒱₀ () Set.univ := fun t => by
  rw [bigSep_W0, bigSep_W0]
  sl_whnfR [defs₀, Defs.onTc]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%u, HU⟩, ⟨%uc, HUC⟩, ⟨%a, HA⟩, ⟨%b, HB⟩⟩, Hr⟩, Ho, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3, before0_4, before0_5]
  rw [after0_0, after0_1, after0_2, after0_3, after0_4, after0_5, after0_6]
  iapply (body_spec c _ _ _ _ _ _ _ _ _ _ _ _ _ _ _ _ _ _ _ _ _ _ (iblk m c 0 t) (iblk m c 1 t) (iblk m c 2 t) (iblk m c 3 t)
    (iblk m c 4 t) (iblk m c 5 t) _ ((dats m 0 c).before 6 t d6) u uc a b _) $$ [H0 H1 H2 H3 H4 H5 H6 HU HUC HA HB]
  · unfold own
    isplitl [H0 H1 H2 H3 H4 H5 HU HUC]
    · isplitl [H0]; · iexact H0
      isplitl [H1]; · iexact H1
      isplitl [H2]; · iexact H2
      isplitl [H3]; · iexact H3
      isplitl [H4]; · iexact H4
      isplitl [H5]; · iexact H5
      isplitl [HU]
      · rw [owns_whole]; iexact HU
      · rw [owns_whole]; iexact HUC
    isplitl [H6]; · iexact H6
    isplitl [HA]
    · rw [owns_whole]; iexact HA
    · rw [owns_whole]; iexact HB
  unfold ins stOwn own
  iintro ⟨⟨H0, H1, H2, H3, H4, H5, HU, HUC⟩, H6, ⟨%s, HA, HB⟩⟩
  isplitl [HU HUC HA HB Hr]
  · isplitl [HU HUC HA HB]
    · isplitl [HU]; · iexists tri; iapply (own_buf c _ _) $$ HU
      isplitl [HUC]; · iexists triC; iapply (own_buf c _ _) $$ HUC
      isplitl [HA]; · iexists (asm s.acc); iapply (own_buf c _ _) $$ HA
      iexists (asm s.r); iapply (own_buf c _ _) $$ HB
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option backward.isDefEq.respectTransparency.types false in
/-- From any memory with zero counters the program terminates without fault, and every final state has the kernel's
    arrays at what the proof data say and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := fun _ _ => rfl) (hΦ := fun _ _ => rfl)

/-- What the kernel's final states hold: the output window's array at the proof data's, the arguments as launched. -/
theorem run_post (r : PUnit × MemSt nD τ sig (Elt F)) (h : Pipeline.FramePost cfgs (dats m) 0 (V m) r) (c : Dev nD) :
    r.2.mem ((c.tc : Thread nD τ).loc main_v5) = (dats m 0 c).arrAt 6 (cfg0 (F := F)).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5) :=
  ⟨(h c).1 6,
   ((h c).2 main_arg0 (show main_arg0 ∈ Pipeline.restRefs sig spec0 from Pipeline.mem_restRefs_of main_arg0 (by decide) (by decide))).trans (V_keep m c main_arg0 (by decide)),
   ((h c).1 1).trans (((dats m 0 c).arrAt_in 1 rfl _).trans (V_keep m c main_arg1 (by decide))),
   ((h c).1 2).trans (((dats m 0 c).arrAt_in 2 rfl _).trans (V_keep m c main_arg2 (by decide))),
   ((h c).1 3).trans (((dats m 0 c).arrAt_in 3 rfl _).trans (V_keep m c main_arg3 (by decide))),
   ((h c).1 4).trans (((dats m 0 c).arrAt_in 4 rfl _).trans (V_keep m c main_arg4 (by decide))),
   ((h c).1 5).trans (((dats m 0 c).arrAt_in 5 rfl _).trans (V_keep m c main_arg5 (by decide)))⟩

end Cert.KernelIdeal.Att
-- ==== Proof.Frames.lean ====
module

public import proofs.«01_k».proof.Defs
public import proofs.«01_k».proof.Proof.P.Run
public import proofs.«01_k».proof.Proof.PI.Run
public import proofs.«01_k».proof.Proof.Gen.ReferenceIdeal.Run
public import Idealize.ShloMosaic.Adequacy
public import Idealize.ShloMosaic.PureOps.BitExact
public import Idealize.ShloMosaic.PureOps.IdealRules

/-! # The three frame claims and the claim that only named constants were replaced -/

@[expose] public section

noncomputable section

namespace Cert.Proof

open Idealize.ShloMosaic Idealize.SL.Sem

/-- The kernel as printed runs, leaves its arguments as launched and every counter at zero. -/
theorem frame_kernel : Cert.quiescent_Kernel := by
  intro m ρ _
  exact (θ_run Cert.Kernel.defs _ _).mono
    (fun r h => ⟨fun c => (Cert.Kernel.Att.run_post m r h.1 c).2, h.2⟩) (Cert.Kernel.Att.run_main (F := Bits) m ρ)

/-- The kernel with its constants named runs, leaves its arguments as launched and every counter at zero. -/
theorem frame_kernelIdeal : Cert.quiescent_KernelIdeal := by
  intro m ρ _
  exact (θ_run Cert.KernelIdeal.defs _ _).mono
    (fun r h => ⟨fun c => (Cert.KernelIdeal.Att.run_post m r h.1 c).2, h.2⟩) (Cert.KernelIdeal.Att.run_main (F := Ideal) m ρ)

/-- The reference runs, leaves its arguments as launched and every counter at zero (it has none). -/
theorem frame_reference : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant stands for the word the kernel holds at its place. -/
theorem preserves : Cert.preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "mask" .f32 0xF149F2CA#32 ⊥ rfl,
   IdealRules.named_const.statement Cert.KernelIdeal.κ "dead" .f32 0xC3200000#32 ⊥ rfl⟩

end Cert.Proof
-- ==== Proof.Val.Score.lean ====
/-
  One query against its keys, on the extended reals: the base-2 stick-breaking weights of the kernel are the natural
  ones of the reference. Nothing here mentions an array.

  `z p` is the score of the key at position `p` in base-2 units, `z p * ln 2` the score itself. The keys at positions
  below `P` are visible.
-/
module

public import Idealize.ShloMosaic.PureOps.Ideal.Laws

@[expose] public section

noncomputable section

namespace Cert.Val

open Idealize.ShloMosaic

/-- The natural logarithm of 2. -/
abbrev ln2 : ℝ := Real.log 2
theorem ln2_pos : 0 < ln2 := Real.log_pos (by norm_num)

/-- The base-2 softplus, as the kernel computes it. -/
def nl (x : EReal) : EReal := max x 0 + Ideal.log (1 + Ideal.exp2 (0 - max x (-x))) * ((ln2⁻¹ : ℝ) : EReal)
/-- The natural softplus, as the reference computes it. -/
def sp (y : EReal) : EReal := max y 0 + Ideal.log1p (Ideal.exp (-(max y (-y))))
/-- The logarithm of the logistic function, as the reference computes it. -/
def ls (x : EReal) : EReal := -sp (-x)

/-- Scaling by a positive real is additive. -/
theorem add_mulc (c : ℝ) (hc : 0 < c) (x y : EReal) : (x + y) * (c : EReal) = x * c + y * c := by
  have h : (0 : EReal) < (c : EReal) := by exact_mod_cast hc
  induction x with
  | bot => simp [EReal.bot_mul_of_pos h]
  | top =>
    induction y with
    | bot => simp [EReal.bot_mul_of_pos h]
    | top => simp [EReal.top_mul_of_pos h]
    | coe b => rw [EReal.top_add_coe, EReal.top_mul_of_pos h, ← EReal.coe_mul, EReal.top_add_coe]
  | coe a =>
    induction y with
    | bot => simp [EReal.bot_mul_of_pos h]
    | top => rw [EReal.coe_add_top, EReal.top_mul_of_pos h, ← EReal.coe_mul, EReal.coe_add_top]
    | coe b => norm_cast; ring

/-- Scaling by a positive real, as a map of sums. -/
def mulcHom (c : ℝ) (hc : 0 < c) : EReal →+ EReal where
  toFun x := x * c
  map_zero' := zero_mul _
  map_add' := add_mulc c hc

theorem sum_mulc {ι : Type} (c : ℝ) (hc : 0 < c) (s : Finset ι) (f : ι → EReal) : (∑ i ∈ s, f i) * (c : EReal) = ∑ i ∈ s, f i * c :=
  map_sum (mulcHom c hc) f s

/-- The base-2 softplus of a real number. -/
def nlR (a : ℝ) : ℝ := max a 0 + Real.log (1 + (2 : ℝ) ^ (-|a|)) * ln2⁻¹
theorem coe_max' (a b : ℝ) : max (a : EReal) (b : EReal) = ((max a b : ℝ) : EReal) := (EReal.coe_strictMono.monotone.map_max).symm
theorem abs_max (a : ℝ) : max (a : EReal) (-(a : EReal)) = ((|a| : ℝ) : EReal) := by rw [← EReal.coe_neg, coe_max']; rfl

theorem log_coe {a : ℝ} (h : 0 < a) : Ideal.log (a : EReal) = (Real.log a : EReal) := by
  show (if a ≤ 0 then ⊥ else (Real.log a : EReal)) = _
  rw [if_neg (not_le.2 h)]

theorem nl_coe (a : ℝ) : nl (a : EReal) = (nlR a : EReal) := by
  unfold nl nlR
  rw [abs_max, ← EReal.coe_zero, coe_max', ← EReal.coe_sub, zero_sub]
  have h : Ideal.exp2 ((-|a| : ℝ) : EReal) = (((2 : ℝ) ^ (-|a|) : ℝ) : EReal) := rfl
  rw [h, ← EReal.coe_one, ← EReal.coe_add, log_coe (by positivity), ← EReal.coe_mul, ← EReal.coe_add]

theorem nl_top : nl ⊤ = ⊤ := by
  unfold nl
  simp only [EReal.neg_top, le_top, sup_of_le_left, bot_le]
  have : Ideal.exp2 (0 - (⊤ : EReal)) = 0 := by rw [sub_eq_add_neg, EReal.neg_top, EReal.add_bot]; rfl
  rw [this, add_zero, ← EReal.coe_one, log_coe one_pos, Real.log_one, EReal.coe_zero, zero_mul, add_zero]

theorem nl_bot : nl ⊥ = 0 := by
  unfold nl
  simp only [EReal.neg_bot, bot_le, sup_of_le_right]
  have : Ideal.exp2 (0 - (⊤ : EReal)) = 0 := by rw [sub_eq_add_neg, EReal.neg_top, EReal.add_bot]; rfl
  rw [this, add_zero, ← EReal.coe_one, log_coe one_pos, Real.log_one, EReal.coe_zero, zero_mul, add_zero]

theorem sp_top : sp ⊤ = ⊤ := by
  unfold sp
  simp only [EReal.neg_top, le_top, sup_of_le_left, bot_le]
  have : Ideal.exp (⊥ : EReal) = 0 := rfl
  rw [this, Ideal.log1p, add_zero, ← EReal.coe_one, log_coe one_pos, Real.log_one, EReal.coe_zero, add_zero]

theorem sp_bot : sp ⊥ = 0 := by
  unfold sp
  simp only [EReal.neg_bot, bot_le, sup_of_le_right, EReal.neg_top]
  have : Ideal.exp (⊥ : EReal) = 0 := rfl
  rw [this, Ideal.log1p, add_zero, ← EReal.coe_one, log_coe one_pos, Real.log_one, EReal.coe_zero, add_zero]

theorem sp_coe (a : ℝ) : sp ((a * ln2 : ℝ) : EReal) = ((nlR a * ln2 : ℝ) : EReal) := by
  unfold sp nlR
  rw [abs_max, ← EReal.coe_zero, coe_max', ← EReal.coe_neg]
  have h : Ideal.exp ((-|a * ln2| : ℝ) : EReal) = (((2 : ℝ) ^ (-|a|) : ℝ) : EReal) := by
    show ((Real.exp _ : ℝ) : EReal) = _
    rw [Real.rpow_def_of_pos (by norm_num), abs_mul, abs_of_pos ln2_pos]
    congr 2; ring
  rw [h, Ideal.log1p, ← EReal.coe_one, ← EReal.coe_add, log_coe (by positivity), ← EReal.coe_add]
  congr 1
  rw [add_mul, mul_assoc, inv_mul_cancel₀ ln2_pos.ne', mul_one, max_mul_of_nonneg _ _ ln2_pos.le, zero_mul]

/-- The two softplus functions differ by the factor `ln 2`. -/
theorem sp_mul (x : EReal) : sp (x * (ln2 : EReal)) = nl x * (ln2 : EReal) := by
  have h : (0 : EReal) < (ln2 : EReal) := by exact_mod_cast ln2_pos
  induction x with
  | bot => rw [EReal.bot_mul_of_pos h, sp_bot, nl_bot, zero_mul]
  | top => rw [EReal.top_mul_of_pos h, sp_top, nl_top, EReal.top_mul_of_pos h]
  | coe a => rw [← EReal.coe_mul, sp_coe, nl_coe, EReal.coe_mul]

theorem nlR_nonneg (a : ℝ) : 0 ≤ nlR a := by
  unfold nlR
  have h1 : (0:ℝ) < (2 : ℝ) ^ (-|a|) := by positivity
  have h2 : 0 ≤ Real.log (1 + (2 : ℝ) ^ (-|a|)) := Real.log_nonneg (by linarith)
  have h3 : 0 ≤ ln2⁻¹ := (inv_pos.2 ln2_pos).le
  positivity

theorem nl_nonneg (x : EReal) : 0 ≤ nl x := by
  induction x with
  | bot => rw [nl_bot]
  | top => rw [nl_top]; exact le_top
  | coe a => rw [nl_coe]; exact_mod_cast nlR_nonneg a

theorem nlR_neg (a : ℝ) : nlR (-a) = nlR a - a := by
  unfold nlR
  rw [abs_neg]
  have : max (-a) 0 = max a 0 - a := by
    rcases le_total 0 a with h | h
    · rw [max_eq_left h, max_eq_right (by linarith)]; ring
    · rw [max_eq_right h, max_eq_left (by linarith)]; ring
  rw [this]; ring

/-- Sums of what is taken, from position `p` to the last visible one. -/
def S (z : ℕ → EReal) (P p : ℕ) : EReal := ∑ x ∈ Finset.Ico p P, -nl (z x)
/-- The weight of the key at position `p`. -/
def E (z : ℕ → EReal) (P p : ℕ) : EReal := Ideal.exp2 (z p + S z P p)
/-- The weighted values of the keys from position `lo` on. -/
def A (z v : ℕ → EReal) (P lo : ℕ) : EReal := ∑ p ∈ Finset.Ico lo P, E z P p * v p

theorem S_split (z : ℕ → EReal) {P p m : ℕ} (h : p ≤ m) (h' : m ≤ P) : S z P p = S z m p + S z P m :=
  (Finset.sum_Ico_consecutive _ h h').symm

theorem A_split (z v : ℕ → EReal) {P lo m : ℕ} (h : lo ≤ m) (h' : m ≤ P) : A z v P lo = (∑ p ∈ Finset.Ico lo m, E z P p * v p) + A z v P m :=
  (Finset.sum_Ico_consecutive _ h h').symm

theorem S_le (z : ℕ → EReal) (P p : ℕ) : S z P p ≤ 0 :=
  Finset.sum_nonpos fun x _ => by simpa using EReal.neg_le_neg_iff.2 (nl_nonneg (z x))

/-- Once nothing is left of the stick, the older keys have no weight. -/
theorem A_dead (z v : ℕ → EReal) {P lo lo' : ℕ} (h : lo' ≤ lo) (h' : lo ≤ P) (hd : S z P lo = ⊥) : A z v P lo' = A z v P lo := by
  rw [A_split z v h h', Finset.sum_eq_zero, zero_add]
  intro p hp
  rw [Finset.mem_Ico] at hp
  have : E z P p = 0 := by
    unfold E; rw [S_split z hp.2.le h', hd, EReal.add_bot, EReal.add_bot]; rfl
  rw [this, zero_mul]

theorem S_dead (z : ℕ → EReal) {P lo lo' : ℕ} (h : lo' ≤ lo) (h' : lo ≤ P) (hd : S z P lo = ⊥) : S z P lo' = ⊥ := by
  rw [S_split z h h', hd, EReal.add_bot]

theorem ls_neg_mul (x : EReal) : ls (-(x * (ln2 : EReal))) = -nl x * (ln2 : EReal) := by
  unfold ls; rw [neg_neg, sp_mul, EReal.neg_mul]

/-- The weight of a visible key is the reference's. -/
theorem E_eq (z : ℕ → EReal) {P p : ℕ} (h : p < P) :
    E z P p = Ideal.exp (ls (z p * (ln2 : EReal))
      + ((∑ x ∈ Finset.Ico p P, ls (-(z x * (ln2 : EReal)))) - ls (-(z p * (ln2 : EReal))))) := by
  have hl : (0 : EReal) < (ln2 : EReal) := by exact_mod_cast ln2_pos
  have hsum : (∑ x ∈ Finset.Ico p P, ls (-(z x * (ln2 : EReal)))) = S z P p * (ln2 : EReal) := by
    unfold S; rw [sum_mulc _ ln2_pos]; exact Finset.sum_congr rfl fun x _ => ls_neg_mul _
  rw [hsum, ls_neg_mul]
  have hs : S z P p = -nl (z p) + S z P (p + 1) := by
    unfold S; rw [Finset.sum_eq_sum_Ico_succ_bot h]
  have hle : S z P (p + 1) ≤ 0 := S_le z P (p + 1)
  unfold E
  rw [hs]
  generalize S z P (p + 1) = T at hle
  generalize z p = x
  induction x with
  | bot => rw [EReal.bot_add, EReal.bot_mul_of_pos hl]; unfold ls; rw [EReal.neg_bot, sp_top, EReal.neg_top, EReal.bot_add]; rfl
  | top => rw [nl_top, EReal.neg_top, EReal.bot_add, EReal.add_bot, EReal.bot_mul_of_pos hl, sub_eq_add_neg, EReal.bot_add, EReal.add_bot]; rfl
  | coe a =>
    have e1 : ls ((a : EReal) * (ln2 : EReal)) = (((a - nlR a) * ln2 : ℝ) : EReal) := by
      unfold ls
      rw [← EReal.neg_mul, ← EReal.coe_neg, sp_mul, nl_coe, nlR_neg, ← EReal.coe_mul, ← EReal.coe_neg]; congr 1; ring
    rw [e1, nl_coe]
    induction T with
    | bot => rw [EReal.add_bot, EReal.add_bot, EReal.bot_mul_of_pos hl, EReal.bot_sub, EReal.add_bot]; rfl
    | top => exact absurd hle (by simp)
    | coe b =>
      norm_cast
      show (((2 : ℝ) ^ (a + (-nlR a + b)) : ℝ) : EReal) = ((Real.exp _ : ℝ) : EReal)
      rw [Real.rpow_def_of_pos (by norm_num)]
      congr 2; ring

end Cert.Val

end
-- ==== Proof.Val.Ops.lean ====
/-
  The kernel's operations read at an index, on the extended reals: the products as sums, the masks as comparisons of
  coordinates, the concatenation of the running sums with themselves, and the normalisation of a head.
-/
module

public import proofs.«01_k».proof.Proof.PI.Vocab
public import proofs.«01_k».proof.Proof.Val.Score
public import Idealize.ShloMosaic.Lib.Pipeline.Value
public import Idealize.ShloMosaic.Lib.ValueIdx
public import Idealize.ShloMosaic.Lib.WordCmp
public import Idealize.ShloMosaic.Lib.ValueLayout
public import Idealize.ShloMosaic.Lib.ValueLayoutCasts
public import Idealize.ShloMosaic.PureOps.Ideal.Laws

@[expose] public section

set_option synthInstance.maxSize 4096

noncomputable section

namespace Cert.KernelIdeal.Att

open Idealize.ShloMosaic Idealize.ShloMosaic.TcCoe Idealize.ShloMosaic.ValueIdx
open Cert.KernelIdeal Cert.KernelIdeal.Gen
open Cert.Val

/-! ## The matrix products -/

theorem mm_scores_l0 (i : S256x256.Idx) (q : dot_S256x128_S256x128_S256x256_1_1_0_0_n_n.contr.Idx) : (dot_S256x128_S256x128_S256x256_1_1_0_0_n_n.lhsIdx i q 0).val = (i 0).val := by
  unfold DotDims.lhsIdx
  rw [dif_neg (show ¬(0 : Fin S256x128.rank) ∈ dot_S256x128_S256x128_S256x256_1_1_0_0_n_n.lhsBatch by decide), dif_pos (show (0 : Fin S256x128.rank) ∈ dot_S256x128_S256x128_S256x256_1_1_0_0_n_n.lhsNonContracting by decide)]
  rfl
theorem mm_scores_l1 (i : S256x256.Idx) (q : dot_S256x128_S256x128_S256x256_1_1_0_0_n_n.contr.Idx) : (dot_S256x128_S256x128_S256x256_1_1_0_0_n_n.lhsIdx i q 1).val = (q ⟨0, by decide⟩).val :=
  dot_S256x128_S256x128_S256x256_1_1_0_0_n_n.lhsIdx_val_of_single rfl i q
theorem mm_scores_r0 (i : S256x256.Idx) (q : dot_S256x128_S256x128_S256x256_1_1_0_0_n_n.contr.Idx) : (dot_S256x128_S256x128_S256x256_1_1_0_0_n_n.rhsIdx i q 0).val = (i 1).val := by
  unfold DotDims.rhsIdx
  rw [dif_neg (show ¬(0 : Fin S256x128.rank) ∈ dot_S256x128_S256x128_S256x256_1_1_0_0_n_n.rhsBatch by decide), dif_pos (show (0 : Fin S256x128.rank) ∈ dot_S256x128_S256x128_S256x256_1_1_0_0_n_n.rhsNonContracting by decide)]
  rfl
theorem mm_scores_r1 (i : S256x256.Idx) (q : dot_S256x128_S256x128_S256x256_1_1_0_0_n_n.contr.Idx) : (dot_S256x128_S256x128_S256x256_1_1_0_0_n_n.rhsIdx i q 1).val = (q ⟨0, by decide⟩).val :=
  dot_S256x128_S256x128_S256x256_1_1_0_0_n_n.rhsIdx_val_of_single rfl i q
theorem mm_scores (x : FVec Ideal S256x128 .bf16) (y : FVec Ideal S256x128 .bf16) (i : Fin 256) (j : Fin 256) :
    (matmul dot_S256x128_S256x128_S256x256_1_1_0_0_n_n none x y (constant S256x256 .f32 0x00000000#32) : FVec Ideal S256x256 .f32) (ix2 i j) = ∑ k : Fin 128, x (ix2 i k) * y (ix2 j k) := by
  simp only [matmul]
  rw [Ideal.matmul_constant_zero_apply, ← Equiv.sum_comp (contrEquiv1 dot_S256x128_S256x128_S256x256_1_1_0_0_n_n 128 rfl rfl).symm]
  refine Finset.sum_congr rfl fun k _ => ?_
  have hk := contrEquiv1_symm_val dot_S256x128_S256x128_S256x256_1_1_0_0_n_n 128 rfl rfl k
  have el : dot_S256x128_S256x128_S256x256_1_1_0_0_n_n.lhsIdx (ix2 i j) ((contrEquiv1 dot_S256x128_S256x128_S256x256_1_1_0_0_n_n 128 rfl rfl).symm k) = ix2 i k := funext fun a => Fin.ext (by
    match a with
    | ⟨0, _⟩ => exact mm_scores_l0 _ _
    | ⟨1, _⟩ => exact (mm_scores_l1 _ _).trans hk)
  have er : dot_S256x128_S256x128_S256x256_1_1_0_0_n_n.rhsIdx (ix2 i j) ((contrEquiv1 dot_S256x128_S256x128_S256x256_1_1_0_0_n_n 128 rfl rfl).symm k) = ix2 j k := funext fun a => Fin.ext (by
    match a with
    | ⟨0, _⟩ => exact mm_scores_r0 _ _
    | ⟨1, _⟩ => exact (mm_scores_r1 _ _).trans hk)
  rw [el, er]

theorem mm_tri_l0 (i : S256x256.Idx) (q : dot_S256x256_S256x256_S256x256_1_0_0_1_n_n.contr.Idx) : (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl
theorem mm_tri_l1 (i : S256x256.Idx) (q : dot_S256x256_S256x256_S256x256_1_0_0_1_n_n.contr.Idx) : (dot_S256x256_S256x256_S256x256_1_0_0_1_n_n.lhsIdx i q 1).val = (q ⟨0, by decide⟩).val :=
  dot_S256x256_S256x256_S256x256_1_0_0_1_n_n.lhsIdx_val_of_single rfl i q
theorem mm_tri_r1 (i : S256x256.Idx) (q : dot_S256x256_S256x256_S256x256_1_0_0_1_n_n.contr.Idx) : (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl
theorem mm_tri_r0 (i : S256x256.Idx) (q : dot_S256x256_S256x256_S256x256_1_0_0_1_n_n.contr.Idx) : (dot_S256x256_S256x256_S256x256_1_0_0_1_n_n.rhsIdx i q 0).val = (q ⟨0, by decide⟩).val :=
  dot_S256x256_S256x256_S256x256_1_0_0_1_n_n.rhsIdx_val_of_single rfl i q
theorem mm_tri (x : FVec Ideal S256x256 .bf16) (y : FVec Ideal S256x256 .bf16) (i : Fin 256) (j : Fin 256) :
    (matmul dot_S256x256_S256x256_S256x256_1_0_0_1_n_n none x y (constant S256x256 .f32 0x00000000#32) : FVec Ideal S256x256 .f32) (ix2 i j) = ∑ k : Fin 256, x (ix2 i k) * y (ix2 k j) := by
  simp only [matmul]
  rw [Ideal.matmul_constant_zero_apply, ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 i j) ((contrEquiv1 dot_S256x256_S256x256_S256x256_1_0_0_1_n_n 256 rfl rfl).symm k) = ix2 i k := funext fun a => Fin.ext (by
    match a with
    | ⟨0, _⟩ => exact mm_tri_l0 _ _
    | ⟨1, _⟩ => exact (mm_tri_l1 _ _).trans hk)
  have er : dot_S256x256_S256x256_S256x256_1_0_0_1_n_n.rhsIdx (ix2 i j) ((contrEquiv1 dot_S256x256_S256x256_S256x256_1_0_0_1_n_n 256 rfl rfl).symm k) = ix2 k j := funext fun a => Fin.ext (by
    match a with
    | ⟨0, _⟩ => exact (mm_tri_r0 _ _).trans hk
    | ⟨1, _⟩ => exact mm_tri_r1 _ _)
  rw [el, er]

theorem mm_values_l0 (i : S256x128.Idx) (q : dot_S256x256_S256x128_S256x128_1_0_0_1_n_n.contr.Idx) : (dot_S256x256_S256x128_S256x128_1_0_0_1_n_n.lhsIdx i q 0).val = (i 0).val := by
  unfold DotDims.lhsIdx
  rw [dif_neg (show ¬(0 : Fin S256x256.rank) ∈ dot_S256x256_S256x128_S256x128_1_0_0_1_n_n.lhsBatch by decide), dif_pos (show (0 : Fin S256x256.rank) ∈ dot_S256x256_S256x128_S256x128_1_0_0_1_n_n.lhsNonContracting by decide)]
  rfl
theorem mm_values_l1 (i : S256x128.Idx) (q : dot_S256x256_S256x128_S256x128_1_0_0_1_n_n.contr.Idx) : (dot_S256x256_S256x128_S256x128_1_0_0_1_n_n.lhsIdx i q 1).val = (q ⟨0, by decide⟩).val :=
  dot_S256x256_S256x128_S256x128_1_0_0_1_n_n.lhsIdx_val_of_single rfl i q
theorem mm_values_r1 (i : S256x128.Idx) (q : dot_S256x256_S256x128_S256x128_1_0_0_1_n_n.contr.Idx) : (dot_S256x256_S256x128_S256x128_1_0_0_1_n_n.rhsIdx i q 1).val = (i 1).val := by
  unfold DotDims.rhsIdx
  rw [dif_neg (show ¬(1 : Fin S256x128.rank) ∈ dot_S256x256_S256x128_S256x128_1_0_0_1_n_n.rhsBatch by decide), dif_pos (show (1 : Fin S256x128.rank) ∈ dot_S256x256_S256x128_S256x128_1_0_0_1_n_n.rhsNonContracting by decide)]
  rfl
theorem mm_values_r0 (i : S256x128.Idx) (q : dot_S256x256_S256x128_S256x128_1_0_0_1_n_n.contr.Idx) : (dot_S256x256_S256x128_S256x128_1_0_0_1_n_n.rhsIdx i q 0).val = (q ⟨0, by decide⟩).val :=
  dot_S256x256_S256x128_S256x128_1_0_0_1_n_n.rhsIdx_val_of_single rfl i q
theorem mm_values (x : FVec Ideal S256x256 .bf16) (y : FVec Ideal S256x128 .bf16) (i : Fin 256) (j : Fin 128) :
    (matmul dot_S256x256_S256x128_S256x128_1_0_0_1_n_n none x y (constant S256x128 .f32 0x00000000#32) : FVec Ideal S256x128 .f32) (ix2 i j) = ∑ k : Fin 256, x (ix2 i k) * y (ix2 k j) := by
  simp only [matmul]
  rw [Ideal.matmul_constant_zero_apply, ← Equiv.sum_comp (contrEquiv1 dot_S256x256_S256x128_S256x128_1_0_0_1_n_n 256 rfl rfl).symm]
  refine Finset.sum_congr rfl fun k _ => ?_
  have hk := contrEquiv1_symm_val dot_S256x256_S256x128_S256x128_1_0_0_1_n_n 256 rfl rfl k
  have el : dot_S256x256_S256x128_S256x128_1_0_0_1_n_n.lhsIdx (ix2 i j) ((contrEquiv1 dot_S256x256_S256x128_S256x128_1_0_0_1_n_n 256 rfl rfl).symm k) = ix2 i k := funext fun a => Fin.ext (by
    match a with
    | ⟨0, _⟩ => exact mm_values_l0 _ _
    | ⟨1, _⟩ => exact (mm_values_l1 _ _).trans hk)
  have er : dot_S256x256_S256x128_S256x128_1_0_0_1_n_n.rhsIdx (ix2 i j) ((contrEquiv1 dot_S256x256_S256x128_S256x128_1_0_0_1_n_n 256 rfl rfl).symm k) = ix2 k j := funext fun a => Fin.ext (by
    match a with
    | ⟨0, _⟩ => exact (mm_values_r0 _ _).trans hk
    | ⟨1, _⟩ => exact mm_values_r1 _ _)
  rw [el, er]

theorem mm_scoresC_l0 (i : S256x128.Idx) (q : dot_S256x128_S128x128_S256x128_1_1_0_0_n_n.contr.Idx) : (dot_S256x128_S128x128_S256x128_1_1_0_0_n_n.lhsIdx i q 0).val = (i 0).val := by
  unfold DotDims.lhsIdx
  rw [dif_neg (show ¬(0 : Fin S256x128.rank) ∈ dot_S256x128_S128x128_S256x128_1_1_0_0_n_n.lhsBatch by decide), dif_pos (show (0 : Fin S256x128.rank) ∈ dot_S256x128_S128x128_S256x128_1_1_0_0_n_n.lhsNonContracting by decide)]
  rfl
theorem mm_scoresC_l1 (i : S256x128.Idx) (q : dot_S256x128_S128x128_S256x128_1_1_0_0_n_n.contr.Idx) : (dot_S256x128_S128x128_S256x128_1_1_0_0_n_n.lhsIdx i q 1).val = (q ⟨0, by decide⟩).val :=
  dot_S256x128_S128x128_S256x128_1_1_0_0_n_n.lhsIdx_val_of_single rfl i q
theorem mm_scoresC_r0 (i : S256x128.Idx) (q : dot_S256x128_S128x128_S256x128_1_1_0_0_n_n.contr.Idx) : (dot_S256x128_S128x128_S256x128_1_1_0_0_n_n.rhsIdx i q 0).val = (i 1).val := by
  unfold DotDims.rhsIdx
  rw [dif_neg (show ¬(0 : Fin S128x128.rank) ∈ dot_S256x128_S128x128_S256x128_1_1_0_0_n_n.rhsBatch by decide), dif_pos (show (0 : Fin S128x128.rank) ∈ dot_S256x128_S128x128_S256x128_1_1_0_0_n_n.rhsNonContracting by decide)]
  rfl
theorem mm_scoresC_r1 (i : S256x128.Idx) (q : dot_S256x128_S128x128_S256x128_1_1_0_0_n_n.contr.Idx) : (dot_S256x128_S128x128_S256x128_1_1_0_0_n_n.rhsIdx i q 1).val = (q ⟨0, by decide⟩).val :=
  dot_S256x128_S128x128_S256x128_1_1_0_0_n_n.rhsIdx_val_of_single rfl i q
theorem mm_scoresC (x : FVec Ideal S256x128 .bf16) (y : FVec Ideal S128x128 .bf16) (i : Fin 256) (j : Fin 128) :
    (matmul dot_S256x128_S128x128_S256x128_1_1_0_0_n_n none x y (constant S256x128 .f32 0x00000000#32) : FVec Ideal S256x128 .f32) (ix2 i j) = ∑ k : Fin 128, x (ix2 i k) * y (ix2 j k) := by
  simp only [matmul]
  rw [Ideal.matmul_constant_zero_apply, ← Equiv.sum_comp (contrEquiv1 dot_S256x128_S128x128_S256x128_1_1_0_0_n_n 128 rfl rfl).symm]
  refine Finset.sum_congr rfl fun k _ => ?_
  have hk := contrEquiv1_symm_val dot_S256x128_S128x128_S256x128_1_1_0_0_n_n 128 rfl rfl k
  have el : dot_S256x128_S128x128_S256x128_1_1_0_0_n_n.lhsIdx (ix2 i j) ((contrEquiv1 dot_S256x128_S128x128_S256x128_1_1_0_0_n_n 128 rfl rfl).symm k) = ix2 i k := funext fun a => Fin.ext (by
    match a with
    | ⟨0, _⟩ => exact mm_scoresC_l0 _ _
    | ⟨1, _⟩ => exact (mm_scoresC_l1 _ _).trans hk)
  have er : dot_S256x128_S128x128_S256x128_1_1_0_0_n_n.rhsIdx (ix2 i j) ((contrEquiv1 dot_S256x128_S128x128_S256x128_1_1_0_0_n_n 128 rfl rfl).symm k) = ix2 j k := funext fun a => Fin.ext (by
    match a with
    | ⟨0, _⟩ => exact mm_scoresC_r0 _ _
    | ⟨1, _⟩ => exact (mm_scoresC_r1 _ _).trans hk)
  rw [el, er]

theorem mm_triC_l0 (i : S256x128.Idx) (q : dot_S256x128_S128x128_S256x128_1_0_0_1_n_n.contr.Idx) : (dot_S256x128_S128x128_S256x128_1_0_0_1_n_n.lhsIdx i q 0).val = (i 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem mm_triC_l1 (i : S256x128.Idx) (q : dot_S256x128_S128x128_S256x128_1_0_0_1_n_n.contr.Idx) : (dot_S256x128_S128x128_S256x128_1_0_0_1_n_n.lhsIdx i q 1).val = (q ⟨0, by decide⟩).val :=
  dot_S256x128_S128x128_S256x128_1_0_0_1_n_n.lhsIdx_val_of_single rfl i q
theorem mm_triC_r1 (i : S256x128.Idx) (q : dot_S256x128_S128x128_S256x128_1_0_0_1_n_n.contr.Idx) : (dot_S256x128_S128x128_S256x128_1_0_0_1_n_n.rhsIdx i q 1).val = (i 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl
theorem mm_triC_r0 (i : S256x128.Idx) (q : dot_S256x128_S128x128_S256x128_1_0_0_1_n_n.contr.Idx) : (dot_S256x128_S128x128_S256x128_1_0_0_1_n_n.rhsIdx i q 0).val = (q ⟨0, by decide⟩).val :=
  dot_S256x128_S128x128_S256x128_1_0_0_1_n_n.rhsIdx_val_of_single rfl i q
theorem mm_triC (x : FVec Ideal S256x128 .bf16) (y : FVec Ideal S128x128 .bf16) (i : Fin 256) (j : Fin 128) :
    (matmul dot_S256x128_S128x128_S256x128_1_0_0_1_n_n none x y (constant S256x128 .f32 0x00000000#32) : FVec Ideal S256x128 .f32) (ix2 i j) = ∑ k : Fin 128, x (ix2 i k) * y (ix2 k j) := by
  simp only [matmul]
  rw [Ideal.matmul_constant_zero_apply, ← Equiv.sum_comp (contrEquiv1 dot_S256x128_S128x128_S256x128_1_0_0_1_n_n 128 rfl rfl).symm]
  refine Finset.sum_congr rfl fun k _ => ?_
  have hk := contrEquiv1_symm_val dot_S256x128_S128x128_S256x128_1_0_0_1_n_n 128 rfl rfl k
  have el : dot_S256x128_S128x128_S256x128_1_0_0_1_n_n.lhsIdx (ix2 i j) ((contrEquiv1 dot_S256x128_S128x128_S256x128_1_0_0_1_n_n 128 rfl rfl).symm k) = ix2 i k := funext fun a => Fin.ext (by
    match a with
    | ⟨0, _⟩ => exact mm_triC_l0 _ _
    | ⟨1, _⟩ => exact (mm_triC_l1 _ _).trans hk)
  have er : dot_S256x128_S128x128_S256x128_1_0_0_1_n_n.rhsIdx (ix2 i j) ((contrEquiv1 dot_S256x128_S128x128_S256x128_1_0_0_1_n_n 128 rfl rfl).symm k) = ix2 k j := funext fun a => Fin.ext (by
    match a with
    | ⟨0, _⟩ => exact (mm_triC_r0 _ _).trans hk
    | ⟨1, _⟩ => exact mm_triC_r1 _ _)
  rw [el, er]

/-! ## Layout -/

theorem flat_apply (x : Vec Ideal S1x256x128 .bf16) (i : Fin 256) (d : Fin 128) : flat x (ix2 i d) = x (ix3 0 i d) := shapeCast_1ab_ab_apply _ _ _ _
theorem flatF_apply (x : Vec Ideal S1x256x128 .f32) (i : Fin 256) (d : Fin 128) : flatF x (ix2 i d) = x (ix3 0 i d) := shapeCast_1ab_ab_apply _ _ _ _
theorem flatC_apply (x : Vec Ideal S1x128x128 .bf16) (i d : Fin 128) : flatC x (ix2 i d) = x (ix3 0 i d) := shapeCast_1ab_ab_apply _ _ _ _
theorem lift_apply (x : FVec Ideal S256x128 .f32) (i : Fin 256) (d : Fin 128) : lift x (ix3 0 i d) = x (ix2 i d) := shapeCast_ab_1ab_apply _ _ _ _ _

/-- Lane `j` of the running sums placed beside themselves. -/
theorem cat_apply (r : FVec Ideal S256x128 .f32) (i : Fin 256) (j : Fin 256) :
    concatenate S256x256 1 [⟨S256x128, r⟩, ⟨S256x128, r⟩] concatenates_S256x128_S256x128_S256x256_d1 (ix2 i j) = r (ix2 i ⟨j.val % 128, Nat.mod_lt _ (by decide)⟩) := by
  by_cases h : j.val < 128
  · exact concatenate_pair_apply_left (t := S256x256) (s₁ := S256x128) (s₂ := S256x128) 1 r r concatenates_S256x128_S256x128_S256x256_d1 (ix2 i j) rfl
      (ix2 i ⟨j.val % 128, Nat.mod_lt _ (by decide)⟩) (fun b => by
      match b with
      | ⟨0, _⟩ => rfl
      | ⟨1, _⟩ => exact Nat.mod_eq_of_lt h)
  · exact concatenate_pair_apply_right (t := S256x256) (s₁ := S256x128) (s₂ := S256x128) 1 r r concatenates_S256x128_S256x128_S256x256_d1 (ix2 i j) rfl rfl
      (ix2 i ⟨j.val % 128, Nat.mod_lt _ (by decide)⟩) (fun b hb => by
      match b with
      | ⟨0, _⟩ => rfl
      | ⟨1, _⟩ => exact absurd rfl hb) (by
        show j.val % 128 + 128 = j.val
        have := j.isLt
        omega)

/-! ## Masks -/

theorem sel_ofBool {α : Type} (p : Prop) [Decidable p] (x y : α) : Scalar.select (BitVec.ofBool (decide p)) x y = if p then x else y := by
  by_cases h : p
  · rw [if_pos h, decide_eq_true h]; rfl
  · rw [if_neg h, decide_eq_false h]; rfl

theorem ofBits_one : Ideal.ofBits .f32 0x3F800000#32 = 1 := by
  simp [Ideal.ofBits, Ideal.ieee]; rw [← EReal.coe_mul]; norm_num
theorem ofBits_negOne : Ideal.ofBits .f32 0xBF800000#32 = -1 := by
  simp [Ideal.ofBits, Ideal.ieee]; rw [← EReal.coe_mul]; norm_num

theorem tri_apply (i j : Fin 256) : (tri (F := Ideal)) (ix2 i j) = if j.val ≤ i.val then (-1 : EReal) else 0 := by
  unfold tri k0_pay172
  refine (shapeCast_apply _ _ _ (ix2 i j) rfl).trans ?_
  show Scalar.select (IntOp.cmpi .sge (iota .tc S256x256 32 [0] iota_S256x256_d0_w32 (ix2 i j)) (iota .tc S256x256 32 [1] iota_S256x256_d1_w32 (ix2 i j))) (Ideal.ofBits .f32 0xBF800000#32) (Ideal.ofBits .f32 0x00000000#32) = _
  rw [iota_single_apply, iota_single_apply, WordCmp.cmpi_sge_ofNat (by have := i.isLt; show i.val < 2 ^ 31; omega) (by have := j.isLt; show j.val < 2 ^ 31; omega), sel_ofBool, ofBits_negOne, Ideal.ofBits_zero_f32]
theorem triC_apply (i j : Fin 128) : (triC (F := Ideal)) (ix2 i j) = if j.val ≤ i.val then (-1 : EReal) else 0 := by
  unfold triC k0_pay173
  refine (shapeCast_apply _ _ _ (ix2 i j) rfl).trans ?_
  show Scalar.select (IntOp.cmpi .sge (iota .tc S128x128 32 [0] iota_S128x128_d0_w32 (ix2 i j)) (iota .tc S128x128 32 [1] iota_S128x128_d1_w32 (ix2 i j))) (Ideal.ofBits .f32 0xBF800000#32) (Ideal.ofBits .f32 0x00000000#32) = _
  rw [iota_single_apply, iota_single_apply, WordCmp.cmpi_sge_ofNat (by have := i.isLt; show i.val < 2 ^ 31; omega) (by have := j.isLt; show j.val < 2 ^ 31; omega), sel_ofBool, ofBits_negOne, Ideal.ofBits_zero_f32]
theorem before_apply (i j : Fin 256) : before (ix2 i j) = BitVec.ofBool (decide (j.val < i.val)) := by
  unfold before k0_pay174
  show IntOp.cmpi .slt (iota .tc S256x256 32 [1] iota_S256x256_d1_w32 (ix2 i j)) (iota .tc S256x256 32 [0] iota_S256x256_d0_w32 (ix2 i j)) = _
  rw [iota_single_apply, iota_single_apply, WordCmp.cmpi_slt_ofNat (by have := j.isLt; show j.val < 2 ^ 31; omega) (by have := i.isLt; show i.val < 2 ^ 31; omega)]
theorem metaKeys_apply (i : Fin 256) (j : Fin 128) : metaKeys (ix2 i j) = BitVec.ofBool (decide (112 ≤ j.val)) := by
  unfold metaKeys k0_pay14
  show IntOp.cmpi .sge (iota .tc S256x128 32 [1] iota_S256x128_d1_w32 (ix2 i j)) (BitVec.ofNat 32 112) = _
  rw [iota_single_apply, WordCmp.cmpi_sge_ofNat (by have := j.isLt; show j.val < 2 ^ 31; omega) (by decide)]

/-! ## The pieces of a step -/

theorem zOf_apply (q : FVec Ideal S256x128 .bf16) (k : Vec Ideal S1x256x128 .bf16) (i j : Fin 256) : zOf q k (ix2 i j) = ∑ d : Fin 128, q (ix2 i d) * k (ix3 0 j d) := by
  unfold zOf; rw [mm_scores]; simp only [flat_apply]

theorem cLog2e_eq : (cLog2e : Ideal .f32) = ((ln2⁻¹ : ℝ) : EReal) := rfl
theorem cMask_eq : (cMask : Ideal .f32) = (⊥ : EReal) := rfl
theorem cDead_eq : (cDead : Ideal .f32) = (⊥ : EReal) := rfl

theorem nl_form (x : EReal) : max x (Ideal.ofBits .f32 0x00000000#32) + Ideal.log (Ideal.ofBits .f32 0x3F800000#32 + Ideal.exp2 (Ideal.ofBits .f32 0x00000000#32 - max x (-x))) * ((ln2⁻¹ : ℝ) : EReal) = nl x := by
  rw [Ideal.ofBits_zero_f32, ofBits_one]; rfl

theorem nlOf_apply (z : FVec Ideal S256x256 .f32) (i j : Fin 256) : nlOf z (ix2 i j) = nl (z (ix2 i j)) := nl_form _
theorem nlMask_apply (z : FVec Ideal S256x256 .f32) (i j : Fin 256) : nlMask before (nlOf z) (ix2 i j) = if j.val < i.val then nl (z (ix2 i j)) else 0 := by
  show Scalar.select (before (ix2 i j)) (nlOf z (ix2 i j)) (Ideal.ofBits .f32 0x00000000#32) = _
  rw [before_apply, nlOf_apply, Ideal.ofBits_zero_f32]
  rw [sel_ofBool]
theorem tMask_apply (t : FVec Ideal S256x256 .f32) (i j : Fin 256) : tMask before t (ix2 i j) = if j.val < i.val then t (ix2 i j) else (⊥ : EReal) := by
  show Scalar.select (before (ix2 i j)) (t (ix2 i j)) (⊥ : EReal) = _
  rw [before_apply]
  rw [sel_ofBool]
theorem csOf_apply (x : FVec Ideal S256x256 .f32) (i j : Fin 256) : csOf x (tri (F := Ideal)) (ix2 i j) = ∑ k : Fin 256, if j.val ≤ k.val then -(x (ix2 i k)) else 0 := by
  unfold csOf
  rw [mm_tri]
  refine Finset.sum_congr rfl fun k _ => ?_
  rw [tri_apply]
  show x (ix2 i k) * _ = _
  split
  · rw [mul_neg, mul_one]
  · rw [mul_zero]
theorem tOf_apply (z cs : FVec Ideal S256x256 .f32) (r : FVec Ideal S256x128 .f32) (i j : Fin 256) :
    tOf z cs r (ix2 i j) = z (ix2 i j) + cs (ix2 i j) + r (ix2 i ⟨j.val % 128, Nat.mod_lt _ (by decide)⟩) := by
  unfold tOf
  rw [addf_apply, cat_apply]; rfl
theorem avOf_apply (t : FVec Ideal S256x256 .f32) (v : Vec Ideal S1x256x128 .bf16) (i : Fin 256) (d : Fin 128) :
    avOf t v (ix2 i d) = ∑ k : Fin 256, Ideal.exp2 (t (ix2 i k)) * v (ix3 0 k d) := by
  unfold avOf
  rw [mm_values]
  refine Finset.sum_congr rfl fun k _ => ?_
  rw [flat_apply]; rfl
theorem rNext_apply (r : FVec Ideal S256x128 .f32) (cs : FVec Ideal S256x256 .f32) (i : Fin 256) (d : Fin 128) :
    rNext r cs (ix2 i d) = r (ix2 i d) + cs (ix2 i 0) := by
  unfold rNext
  rw [addf_apply]
  refine congrArg (r (ix2 i d) + ·) ?_
  refine (broadcastTo_apply _ _ (ix2 i d) (ix2 i (0 : Fin 1)) fun a => ?_).trans ?_
  · match a with
    | ⟨0, _⟩ => rfl
    | ⟨1, _⟩ => rfl
  · refine (shapeCast_apply _ _ _ (ix2 i (0 : Fin 1)) rfl).trans ?_
    exact slice2_axis1_apply 0 cs _ i (0 : Fin 1) (0 : Fin 256) rfl

theorem zC_apply (q : FVec Ideal S256x128 .bf16) (k : Vec Ideal S1x128x128 .bf16) (i : Fin 256) (j : Fin 128) : zC q k (ix2 i j) = ∑ d : Fin 128, q (ix2 i d) * k (ix3 0 j d) := by
  unfold zC; rw [mm_scoresC]; simp only [flatC_apply]
theorem nlC_apply (z : FVec Ideal S256x128 .f32) (i : Fin 256) (j : Fin 128) : nlC z (ix2 i j) = if 112 ≤ j.val then nl (z (ix2 i j)) else 0 := by
  show Scalar.select (metaKeys (ix2 i j)) (max (z (ix2 i j)) (Ideal.ofBits .f32 0x00000000#32) + Ideal.log (Ideal.ofBits .f32 0x3F800000#32 + Ideal.exp2 (Ideal.ofBits .f32 0x00000000#32 - max (z (ix2 i j)) (-z (ix2 i j)))) * ((ln2⁻¹ : ℝ) : EReal)) (Ideal.ofBits .f32 0x00000000#32) = _
  rw [nl_form, metaKeys_apply, Ideal.ofBits_zero_f32]
  rw [sel_ofBool]
theorem csC_apply (x : FVec Ideal S256x128 .f32) (i : Fin 256) (j : Fin 128) : csC x (triC (F := Ideal)) (ix2 i j) = ∑ k : Fin 128, if j.val ≤ k.val then -(x (ix2 i k)) else 0 := by
  unfold csC
  rw [mm_triC]
  refine Finset.sum_congr rfl fun k _ => ?_
  rw [triC_apply]
  show x (ix2 i k) * _ = _
  split
  · rw [mul_neg, mul_one]
  · rw [mul_zero]
theorem tC_apply (z cs r : FVec Ideal S256x128 .f32) (i : Fin 256) (j : Fin 128) :
    tC z cs r (ix2 i j) = if 112 ≤ j.val then z (ix2 i j) + cs (ix2 i j) + r (ix2 i j) else (⊥ : EReal) := by
  show Scalar.select (metaKeys (ix2 i j)) (z (ix2 i j) + cs (ix2 i j) + r (ix2 i j)) (⊥ : EReal) = _
  rw [metaKeys_apply]
  rw [sel_ofBool]
theorem avC_apply (t : FVec Ideal S256x128 .f32) (v : Vec Ideal S1x128x128 .bf16) (i : Fin 256) (d : Fin 128) :
    avC t v (ix2 i d) = ∑ k : Fin 128, Ideal.exp2 (t (ix2 i k)) * v (ix3 0 k d) := by
  unfold avC
  rw [mm_triC]
  refine Finset.sum_congr rfl fun k _ => ?_
  rw [flatC_apply]; rfl
theorem grow_apply (a : Vec Ideal S1x256x128 .f32) (x : FVec Ideal S256x128 .f32) (i : Fin 256) (d : Fin 128) :
    grow a x (ix3 0 i d) = a (ix3 0 i d) + x (ix2 i d) := by
  unfold grow; rw [lift_apply, addf_apply, flatF_apply]

theorem zero4_apply (i : S4x256x128.Idx) : (zero4 (F := Ideal)) i = 0 := by
  unfold zero4 k0_pay181
  exact Ideal.ofBits_zero_f32

/-! ## Whether anything is left -/

/-- Nothing is left exactly when every running sum is `-∞`. -/
theorem live_iff (r : Vec Ideal S4x256x128 .f32) : live r = BitVec.ofBool (decide (∃ i, r i ≠ (⊥ : EReal))) := by
  have hb : Ideal.ofBits .f32 0xFF800000#32 = ⊥ := by simp [Ideal.ofBits, Ideal.ieee]
  have key : ∀ j : S1.Idx, (⊥ : EReal) < multiReduction (F := Ideal) .maximumf [1, 2, 3] S1 (shapeCast S1x4x256x128 r shapeCasts_S4x256x128_S1x4x256x128) 0xFF800000#32 reduces_S1x4x256x128_S1 (.inl rfl) rfl j
      ↔ ∃ i, r i ≠ (⊥ : EReal) := by
    intro j
    rw [show multiReduction (F := Ideal) .maximumf [1, 2, 3] S1 (shapeCast S1x4x256x128 r shapeCasts_S4x256x128_S1x4x256x128) 0xFF800000#32 reduces_S1x4x256x128_S1 (.inl rfl) rfl j
      = (Finset.univ.filter fun i => reduces_S1x4x256x128_S1.drop i = j).fold max (Ideal.ofBits .f32 0xFF800000#32) (shapeCast S1x4x256x128 r shapeCasts_S4x256x128_S1x4x256x128)
      from Idealize.ShloMosaic.multiReduction_maximumf_eq_fold _ _ _ _ _ _]
    have hu : (Finset.univ.filter fun i => reduces_S1x4x256x128_S1.drop i = j) = Finset.univ :=
      Finset.filter_true_of_mem fun i _ => funext fun a => Fin.ext (by
        have h1 := (reduces_S1x4x256x128_S1.drop i a).isLt
        have h2 := (j a).isLt
        match a with
        | ⟨0, _⟩ => exact (Nat.lt_one_iff.1 h1).trans (Nat.lt_one_iff.1 h2).symm)
    rw [hu]
    refine (Finset.lt_fold_max (b := (Ideal.ofBits .f32 0xFF800000#32 : EReal)) (c := (⊥ : EReal))).trans ?_
    rw [hb]
    constructor
    · rintro (h | ⟨x, _, h⟩)
      · exact absurd h (lt_irrefl _)
      · exact ⟨_, bot_lt_iff_ne_bot.1 h⟩
    · rintro ⟨i, h⟩
      refine Or.inr ⟨(Shape.reshapeEquiv shapeCasts_S4x256x128_S1x4x256x128).symm i, Finset.mem_univ _, bot_lt_iff_ne_bot.2 ?_⟩
      unfold shapeCast
      simpa using h
  have e : ∀ x : Ideal .f32, Scalar.cmpf .ogt x (cDead : Ideal .f32) = BitVec.ofBool (decide ((⊥ : EReal) < x)) := fun _ => rfl
  unfold live
  rw [e]
  refine congrArg BitVec.ofBool (decide_eq_decide.2 ?_)
  unfold k0_pay2 extractAt
  unfold shapeCast
  exact key _

/-! ## The normalisation -/

/-- The mean square of a row, and the row normalised and scaled. -/
def normed (y : Fin 128 → EReal) (g : EReal) (d : Fin 128) : EReal :=
  y d * Ideal.rsqrt (Ideal.div (∑ k : Fin 128, y k * y k) (Ideal.ofBits .f32 0x43000000#32) + Ideal.ofBits .f32 0x358637BD#32) * g

theorem outOf_apply (x : Vec Ideal S1x256x128 .f32) (g : FVec Ideal S1x128 .f32) (i : Fin 256) (d : Fin 128) :
    outOf x g (ix3 0 i d) = normed (fun k => x (ix3 0 i k)) (g (ix2 0 d)) d := by
  unfold outOf
  refine (shapeCast_ab_1ab_apply _ _ _ _ _).trans ?_
  rw [truncf_apply, mulf_apply, mulf_apply, flatF_apply]
  unfold normed
  congr 1
  · congr 1
    refine (broadcastTo_apply _ _ (ix2 i d) (ix2 i (0 : Fin 1)) fun a => ?_).trans ?_
    · match a with
      | ⟨0, _⟩ => rfl
      | ⟨1, _⟩ => rfl
    · show Ideal.rsqrt (Ideal.div (shapeCast S256x1 _ _ (ix2 i (0 : Fin 1))) _ + _) = _
      rw [shapeCast_a_a1_apply]
      refine congrArg (fun s => Ideal.rsqrt (Ideal.div s (Ideal.ofBits .f32 0x43000000#32) + Ideal.ofBits .f32 0x358637BD#32)) ?_
      refine (Ideal.multiReduction_add_single (φ := .f32) _ _ reduces_S256x128_S256 _ _ (ix1 i)).trans ?_
      refine Finset.sum_congr rfl fun k _ => ?_
      have e : reduces_S256x128_S256.lift (ix1 i) k = ix2 i k := funext fun a => by
        match a with
        | ⟨0, _⟩ => rfl
        | ⟨1, _⟩ => rfl
      rw [e]
      exact congrArg₂ (· * ·) (flatF_apply x i k) (flatF_apply x i k)
  · exact broadcastTo_1b_ab_apply _ _ _ _

end Cert.KernelIdeal.Att

end
-- ==== Proof.Val.Walk.lean ====
/-
  The value of a block of queries. However early the walk over the older keys stops, the weighted values it leaves are
  those of all the visible keys: it stops only when nothing is left of any stick, and then the remaining keys have no
  weight.
-/
module

public import proofs.«01_k».proof.Proof.PI.Sweep
public import proofs.«01_k».proof.Proof.Val.Ops

@[expose] public section

set_option synthInstance.maxSize 4096

noncomputable section

namespace Cert.KernelIdeal.Att

open Idealize.ShloMosaic Idealize.ShloMosaic.TcCoe Idealize.ShloMosaic.ValueIdx
open Cert.KernelIdeal Cert.KernelIdeal.Gen
open Cert.Val

/-! ## Sums over the columns of a block -/

/-- A masked sum over the columns is the sum over the interval of the mask. -/
theorem sum_cols (n a b : ℕ) (hb : b ≤ n) (f : ℕ → EReal) : (∑ k : Fin n, if a ≤ k.val ∧ k.val < b then f k.val else 0) = ∑ k ∈ Finset.Ico a b, f k := by
  rw [Fin.sum_univ_eq_sum_range (fun k => if a ≤ k ∧ k < b then f k else 0) n, ← Finset.sum_filter]
  refine Finset.sum_congr ?_ fun _ _ => rfl
  ext k
  simp only [Finset.mem_filter, Finset.mem_range, Finset.mem_Ico]
  omega

/-- The masked sums of what is taken, from a column to the end of the block. -/
theorem cols_cs (n a b : ℕ) (hb : b ≤ n) (Z : ℕ → EReal) (N : Fin n → EReal) (hN : ∀ k : Fin n, N k = if a ≤ k.val ∧ k.val < b then nl (Z k.val) else 0) (j : ℕ) :
    (∑ k : Fin n, if j ≤ k.val then -N k else 0) = ∑ k ∈ Finset.Ico (max j a) b, -nl (Z k) := by
  rw [← sum_cols n (max j a) b hb]
  refine Finset.sum_congr rfl fun k _ => ?_
  rw [hN]
  by_cases h1 : j ≤ k.val
  · by_cases h2 : a ≤ k.val ∧ k.val < b
    · rw [if_pos h1, if_pos h2, if_pos (by omega)]
    · rw [if_pos h1, if_neg h2, if_neg (by omega), neg_zero]
  · rw [if_neg h1, if_neg (by omega)]

/-- The weighted values of the columns of a block. -/
theorem cols_av (n a b : ℕ) (hb : b ≤ n) (Z V : ℕ → EReal) (R : EReal) (T : Fin n → EReal)
    (hT : ∀ k : Fin n, T k = if a ≤ k.val ∧ k.val < b then Z k.val + (∑ k' ∈ Finset.Ico (max k.val a) b, -nl (Z k')) + R else ⊥) :
    (∑ k : Fin n, Ideal.exp2 (T k) * V k.val) = ∑ k ∈ Finset.Ico a b, Ideal.exp2 (Z k + (∑ k' ∈ Finset.Ico k b, -nl (Z k')) + R) * V k := by
  rw [← sum_cols n a b hb]
  refine Finset.sum_congr rfl fun k _ => ?_
  rw [hT]
  by_cases h : a ≤ k.val ∧ k.val < b
  · rw [if_pos h, if_pos h, max_eq_left h.1]
  · rw [if_neg h, if_neg h]
    show (0 : EReal) * _ = 0
    rw [zero_mul]

section Row
variable (q : FVec Ideal S256x128 .bf16) (r : FVec Ideal S256x128 .f32) (i : Fin 256) (d : Fin 128) (Z V : ℕ → EReal) (R : EReal) (hr : ∀ d, r (ix2 i d) = R)
include hr

/-! ## What a block of keys does to one query -/

theorem own_cs (k : Vec Ideal S1x256x128 .bf16) (hz : ∀ j : Fin 256, zOf q k (ix2 i j) = Z j.val) (j : Fin 256) :
    csOf (nlMask before (nlOf (zOf q k))) (tri (F := Ideal)) (ix2 i j) = ∑ k ∈ Finset.Ico (max j.val 0) i.val, -nl (Z k) := by
  rw [csOf_apply]
  refine cols_cs 256 0 i.val i.isLt.le Z _ (fun k' => ?_) _
  rw [nlMask_apply, hz]
  simp only [Nat.zero_le, true_and]

theorem own_r (k : Vec Ideal S1x256x128 .bf16) (hz : ∀ j : Fin 256, zOf q k (ix2 i j) = Z j.val) :
    oR before q k (tri (F := Ideal)) r (ix2 i d) = R + ∑ k ∈ Finset.Ico 0 i.val, -nl (Z k) := by
  unfold oR
  rw [rNext_apply, hr, own_cs q r i Z R hr k hz]; rfl

theorem own_acc (k v : Vec Ideal S1x256x128 .bf16) (hz : ∀ j : Fin 256, zOf q k (ix2 i j) = Z j.val) (hv : ∀ j : Fin 256, v (ix3 0 j d) = V j.val) :
    oAcc before q k v (tri (F := Ideal)) r (ix2 i d) = ∑ k ∈ Finset.Ico 0 i.val, Ideal.exp2 (Z k + (∑ k' ∈ Finset.Ico k i.val, -nl (Z k')) + R) * V k := by
  unfold oAcc
  rw [avOf_apply]
  simp only [hv]
  refine cols_av 256 0 i.val i.isLt.le Z V R _ fun j => ?_
  rw [tMask_apply, tOf_apply, hz, hr, own_cs q r i Z R hr k hz]
  simp only [Nat.zero_le, true_and]

theorem old_cs (k : Vec Ideal S1x256x128 .bf16) (hz : ∀ j : Fin 256, zOf q k (ix2 i j) = Z j.val) (j : Fin 256) :
    csOf (nlOf (zOf q k)) (tri (F := Ideal)) (ix2 i j) = ∑ k ∈ Finset.Ico (max j.val 0) 256, -nl (Z k) := by
  rw [csOf_apply]
  refine cols_cs 256 0 256 le_rfl Z _ (fun k' => ?_) _
  rw [nlOf_apply, hz, if_pos ⟨Nat.zero_le _, k'.isLt⟩]

theorem old_r (k : Vec Ideal S1x256x128 .bf16) (hz : ∀ j : Fin 256, zOf q k (ix2 i j) = Z j.val) :
    dR q k (tri (F := Ideal)) r (ix2 i d) = R + ∑ k ∈ Finset.Ico 0 256, -nl (Z k) := by
  unfold dR
  rw [rNext_apply, hr, old_cs q r i Z R hr k hz]; rfl

theorem old_acc (k v : Vec Ideal S1x256x128 .bf16) (hz : ∀ j : Fin 256, zOf q k (ix2 i j) = Z j.val) (hv : ∀ j : Fin 256, v (ix3 0 j d) = V j.val) :
    dAcc q k v (tri (F := Ideal)) r (ix2 i d) = ∑ k ∈ Finset.Ico 0 256, Ideal.exp2 (Z k + (∑ k' ∈ Finset.Ico k 256, -nl (Z k')) + R) * V k := by
  unfold dAcc
  rw [avOf_apply]
  simp only [hv]
  refine cols_av 256 0 256 le_rfl Z V R _ fun j => ?_
  rw [tOf_apply, hz, hr, old_cs q r i Z R hr k hz, if_pos ⟨Nat.zero_le _, j.isLt⟩]

theorem meta_cs (k : Vec Ideal S1x128x128 .bf16) (hz : ∀ j : Fin 128, zC q k (ix2 i j) = Z j.val) (j : Fin 128) :
    csC (nlC (zC q k)) (triC (F := Ideal)) (ix2 i j) = ∑ k ∈ Finset.Ico (max j.val 112) 128, -nl (Z k) := by
  rw [csC_apply]
  refine cols_cs 128 112 128 le_rfl Z _ (fun k' => ?_) _
  rw [nlC_apply, hz]
  have := k'.isLt
  simp only [this, and_true]

theorem meta_r (k : Vec Ideal S1x128x128 .bf16) (hz : ∀ j : Fin 128, zC q k (ix2 i j) = Z j.val) :
    cR q k (triC (F := Ideal)) r (ix2 i d) = R + ∑ k ∈ Finset.Ico 112 128, -nl (Z k) := by
  unfold cR rNextC
  rw [addf_apply, hr]
  refine congrArg (R + ·) ?_
  refine (broadcastTo_apply _ _ (ix2 i d) (ix2 i (0 : Fin 1)) fun a => ?_).trans ?_
  · match a with
    | ⟨0, _⟩ => rfl
    | ⟨1, _⟩ => rfl
  · refine (shapeCast_apply _ _ _ (ix2 i (0 : Fin 1)) rfl).trans ?_
    refine (slice2_axis1_apply 0 _ _ i (0 : Fin 1) (0 : Fin 128) rfl).trans ?_
    rw [meta_cs q r i Z R hr k hz]; rfl

theorem meta_acc (k v : Vec Ideal S1x128x128 .bf16) (hz : ∀ j : Fin 128, zC q k (ix2 i j) = Z j.val) (hv : ∀ j : Fin 128, v (ix3 0 j d) = V j.val) :
    cAcc q k v (triC (F := Ideal)) r (ix2 i d) = ∑ k ∈ Finset.Ico 112 128, Ideal.exp2 (Z k + (∑ k' ∈ Finset.Ico k 128, -nl (Z k')) + R) * V k := by
  unfold cAcc
  rw [avC_apply]
  simp only [hv]
  refine cols_av 128 112 128 le_rfl Z V R _ fun j => ?_
  rw [tC_apply, hz, hr, meta_cs q r i Z R hr k hz]
  have := j.isLt
  simp only [this, and_true]

end Row

/-! ## One more block -/

theorem S_adv (z : ℕ → EReal) (P lo b : ℕ) (h : lo + b ≤ P) : S z P (lo + b) + ∑ k ∈ Finset.Ico 0 b, -nl (z (lo + k)) = S z P lo := by
  rw [S_split z (Nat.le_add_right lo b) h, add_comm]
  congr 1
  unfold S
  have := Finset.sum_Ico_add (fun p => -nl (z p)) 0 b lo
  rw [this, Nat.zero_add, Nat.add_comm b lo]

theorem S_part (z : ℕ → EReal) (lo b k : ℕ) : (∑ k' ∈ Finset.Ico k b, -nl (z (lo + k'))) = S z (lo + b) (lo + k) := by
  unfold S
  rw [Finset.sum_Ico_add (fun p => -nl (z p)) k b lo, Nat.add_comm k lo, Nat.add_comm b lo]

theorem A_adv (z v : ℕ → EReal) (P lo b : ℕ) (h : lo + b ≤ P) :
    A z v P (lo + b) + (∑ k ∈ Finset.Ico 0 b, Ideal.exp2 (z (lo + k) + (∑ k' ∈ Finset.Ico k b, -nl (z (lo + k'))) + S z P (lo + b)) * v (lo + k)) = A z v P lo := by
  rw [A_split z v (Nat.le_add_right lo b) h, add_comm]
  congr 1
  have := Finset.sum_Ico_add (fun p => E z P p * v p) 0 b lo
  rw [Nat.zero_add, Nat.add_comm b lo] at this
  rw [← this]
  refine Finset.sum_congr rfl fun k hk => ?_
  rw [Finset.mem_Ico] at hk
  rw [S_part, add_assoc, ← S_split z (by omega) h]; rfl

/-! ## The keys of a block, and the scores -/

/-- A block of a batch's arrays at a token and a lane. -/
def gB (X : S1x4096x512.Idx → EReal) (s e : ℕ) : EReal := X (ix3 0 ⟨s % 4096, Nat.mod_lt _ (by decide)⟩ ⟨e % 512, Nat.mod_lt _ (by decide)⟩)
/-- A block of the meta tokens' arrays at a row and a lane. -/
def gC (X : S1x128x512.Idx → EReal) (m e : ℕ) : EReal := X (ix3 0 ⟨m % 128, Nat.mod_lt _ (by decide)⟩ ⟨e % 512, Nat.mod_lt _ (by decide)⟩)
/-- The row at position `p`: the meta tokens' come first. -/
def key (K : S1x4096x512.Idx → EReal) (KC : S1x128x512.Idx → EReal) (h p d : ℕ) : EReal :=
  if p < 16 then gC KC (112 + p) (128 * h + d) else gB K (p - 16) (128 * h + d)
/-- The score of the key at position `p` for the query `t`. -/
def zz (Q K : S1x4096x512.Idx → EReal) (KC : S1x128x512.Idx → EReal) (h t p : ℕ) : EReal := ∑ d : Fin 128, gB Q t (128 * h + d.val) * key K KC h p d.val

section Inv
variable (Q K V : S1x4096x512.Idx → EReal) (KC VC : S1x128x512.Idx → EReal)

theorem z_old (b j : ℕ) (h : Fin 4) (i jj : Fin 256) :
    zOf (F := Ideal) (qs (F := Ideal) Q b h) (blk K j h) (ix2 i jj) = zz Q K KC h.val (256 * b + i.val) (16 + 256 * j + jj.val) := by
  rw [zOf_apply]
  refine Finset.sum_congr rfl fun d _ => ?_
  have e : key K KC h.val (16 + 256 * j + jj.val) d.val = gB K (256 * j + jj.val) (128 * h.val + d.val) := by
    unfold key
    rw [if_neg (by omega)]
    congr 1
    omega
  rw [e]
  exact congrArg (· * _) (flat_apply (blk Q b h) i d)

theorem v_old (j : ℕ) (h : Fin 4) (d : Fin 128) (jj : Fin 256) : blk V j h (ix3 0 jj d) = key V VC h.val (16 + 256 * j + jj.val) d.val := by
  unfold key
  rw [if_neg (by omega)]
  have : 16 + 256 * j + jj.val - 16 = 256 * j + jj.val := by omega
  rw [this]; rfl

theorem z_meta (b : ℕ) (h : Fin 4) (i : Fin 256) (jj : Fin 128) :
    zC (F := Ideal) (qs (F := Ideal) Q b h) (blkC KC h) (ix2 i jj) = if 112 ≤ jj.val then zz Q K KC h.val (256 * b + i.val) (jj.val - 112) else zC (F := Ideal) (qs (F := Ideal) Q b h) (blkC KC h) (ix2 i jj) := by
  by_cases hj : 112 ≤ jj.val
  · rw [if_pos hj, zC_apply]
    refine Finset.sum_congr rfl fun d _ => ?_
    have e : key K KC h.val (jj.val - 112) d.val = gC KC jj.val (128 * h.val + d.val) := by
      unfold key
      rw [if_pos (by have := jj.isLt; omega)]
      congr 1
      omega
    rw [e]
    unfold gC
    have : (⟨jj.val % 128, Nat.mod_lt _ (by decide)⟩ : Fin 128) = jj := Fin.ext (Nat.mod_eq_of_lt jj.isLt)
    rw [this]
    exact congrArg (· * _) (flat_apply (blk Q b h) i d)
  · rw [if_neg hj]

theorem step_acc (fa fr) (qq : Fin 4 → FVec Ideal S256x128 .bf16) (kk vv : Fin 4 → Vec Ideal S1x256x128 .bf16) (s : St Ideal) (h : Fin 4) (i : Fin 256) (d : Fin 128) :
    (s.step fa fr qq kk vv).acc h (ix3 0 i d) = s.acc h (ix3 0 i d) + fa (qq h) (kk h) (vv h) (tri (F := Ideal)) (flatF (s.r h)) (ix2 i d) := by
  unfold St.step
  exact grow_apply _ _ _ _
theorem step_r (fa fr) (qq : Fin 4 → FVec Ideal S256x128 .bf16) (kk vv : Fin 4 → Vec Ideal S1x256x128 .bf16) (s : St Ideal) (h : Fin 4) (i : Fin 256) (d : Fin 128) :
    (s.step fa fr qq kk vv).r h (ix3 0 i d) = fr (qq h) (kk h) (tri (F := Ideal)) (flatF (s.r h)) (ix2 i d) := by
  unfold St.step
  exact lift_apply _ _ _
theorem stepC_acc (qq : Fin 4 → FVec Ideal S256x128 .bf16) (kk vv : Fin 4 → Vec Ideal S1x128x128 .bf16) (s : St Ideal) (h : Fin 4) (i : Fin 256) (d : Fin 128) :
    (s.stepC qq kk vv).acc h (ix3 0 i d) = s.acc h (ix3 0 i d) + cAcc (qq h) (kk h) (vv h) (triC (F := Ideal)) (flatF (s.r h)) (ix2 i d) := by
  unfold St.stepC
  exact grow_apply _ _ _ _
theorem stepC_r (qq : Fin 4 → FVec Ideal S256x128 .bf16) (kk vv : Fin 4 → Vec Ideal S1x128x128 .bf16) (s : St Ideal) (h : Fin 4) (i : Fin 256) (d : Fin 128) :
    (s.stepC qq kk vv).r h (ix3 0 i d) = cR (qq h) (kk h) (triC (F := Ideal)) (flatF (s.r h)) (ix2 i d) := by
  unfold St.stepC
  dsimp only
  generalize cR (F := Ideal) (qq h) (kk h) (triC (F := Ideal)) (flatF (s.r h)) = x
  exact lift_apply x i d

/-- The state holds the weighted values and the sums of the positions from `lo` on. -/
def Inv (b : ℕ) (lo : ℕ → ℕ) (s : St Ideal) : Prop := ∀ (h : Fin 4) (i : Fin 256) (d : Fin 128),
  s.acc h (ix3 0 i d) = A (zz Q K KC h.val (256 * b + i.val)) (fun p => key V VC h.val p d.val) (16 + 256 * b + i.val) (lo i.val)
  ∧ s.r h (ix3 0 i d) = S (zz Q K KC h.val (256 * b + i.val)) (16 + 256 * b + i.val) (lo i.val)

theorem inv_zero (b : ℕ) : Inv Q K V KC VC b (fun i => 16 + 256 * b + i) St.zero := fun h i d => by
  constructor
  · show (zero4 (F := Ideal)) (ix3 h i d) = _
    rw [zero4_apply]; unfold A; rw [Finset.Ico_self, Finset.sum_empty]
  · show (zero4 (F := Ideal)) (ix3 h i d) = _
    rw [zero4_apply]; unfold S; rw [Finset.Ico_self, Finset.sum_empty]

theorem inv_own (b : ℕ) (s : St Ideal) (hs : Inv Q K V KC VC b (fun i => 16 + 256 * b + i) s) :
    Inv Q K V KC VC b (fun _ => 16 + 256 * b) (s.step (oAcc before) (oR before) (qs Q b) (blk K b) (blk V b)) := fun h i d => by
  have hr : ∀ d, flatF (s.r h) (ix2 i d) = S (zz Q K KC h.val (256 * b + i.val)) (16 + 256 * b + i.val) (16 + 256 * b + i.val) := fun d => by
    rw [flatF_apply]; exact (hs h i d).2
  constructor
  · rw [step_acc, (hs h i d).1, own_acc _ _ i d (fun p => zz Q K KC h.val (256 * b + i.val) (16 + 256 * b + p)) (fun p => key V VC h.val (16 + 256 * b + p) d.val) _ hr _ _
      (fun j => z_old Q K KC b b h i j) (fun j => v_old V VC b h d j)]
    exact A_adv _ (fun p => key V VC h.val p d.val) _ _ _ le_rfl
  · rw [step_r, own_r _ _ i d (fun p => zz Q K KC h.val (256 * b + i.val) (16 + 256 * b + p)) _ hr _ (fun j => z_old Q K KC b b h i j)]
    exact S_adv _ _ _ _ le_rfl

theorem inv_old (b j : ℕ) (hj : j < b) (s : St Ideal) (hs : Inv Q K V KC VC b (fun _ => 16 + 256 * (j + 1)) s) :
    Inv Q K V KC VC b (fun _ => 16 + 256 * j) (s.step dAcc dR (qs Q b) (blk K j) (blk V j)) := fun h i d => by
  have e : 16 + 256 * (j + 1) = 16 + 256 * j + 256 := by omega
  have hr : ∀ d, flatF (s.r h) (ix2 i d) = S (zz Q K KC h.val (256 * b + i.val)) (16 + 256 * b + i.val) (16 + 256 * j + 256) := fun d => by
    rw [flatF_apply, (hs h i d).2]; exact congrArg _ e
  have ha := (hs h i d).1
  simp only [e] at ha
  constructor
  · rw [step_acc, ha, old_acc _ _ i d (fun p => zz Q K KC h.val (256 * b + i.val) (16 + 256 * j + p)) (fun p => key V VC h.val (16 + 256 * j + p) d.val) _ hr _ _
      (fun jj => z_old Q K KC b j h i jj) (fun jj => v_old V VC j h d jj)]
    exact A_adv _ (fun p => key V VC h.val p d.val) _ _ _ (by omega)
  · rw [step_r, old_r _ _ i d (fun p => zz Q K KC h.val (256 * b + i.val) (16 + 256 * j + p)) _ hr _ (fun jj => z_old Q K KC b j h i jj)]
    exact S_adv _ _ _ _ (by omega)

theorem shift_S (z : ℕ → EReal) (k : ℕ) : (∑ k' ∈ Finset.Ico (112 + k) 128, -nl (z (k' - 112))) = ∑ k' ∈ Finset.Ico k 16, -nl (z (0 + k')) := by
  have := Finset.sum_Ico_add (fun p => -nl (z (p - 112))) k 16 112
  simp only [Nat.add_sub_cancel_left] at this
  simp only [Nat.zero_add]
  rw [this, Nat.add_comm k 112]

theorem inv_meta (b : ℕ) (s : St Ideal) (hs : Inv Q K V KC VC b (fun _ => 16) s) :
    Inv Q K V KC VC b (fun _ => 0) (s.stepC (qs Q b) (blkC KC) (blkC VC)) := fun h i d => by
  have hr : ∀ d, flatF (s.r h) (ix2 i d) = S (zz Q K KC h.val (256 * b + i.val)) (16 + 256 * b + i.val) (0 + 16) := fun d => by
    rw [flatF_apply]; exact (hs h i d).2
  let z := zz Q K KC h.val (256 * b + i.val)
  let zc : ℕ → EReal := fun k => if hk : k < 128 then zC (F := Ideal) (qs (F := Ideal) Q b h) (blkC KC h) (ix2 i ⟨k, hk⟩) else 0
  let vc : ℕ → EReal := fun k => if hk : k < 128 then blkC VC h (ix3 0 ⟨k, hk⟩ d) else 0
  have hz : ∀ j : Fin 128, zC (F := Ideal) (qs (F := Ideal) Q b h) (blkC KC h) (ix2 i j) = zc j.val := fun j => by
    show _ = if hk : j.val < 128 then _ else _
    rw [dif_pos j.isLt]
  have hv : ∀ j : Fin 128, blkC VC h (ix3 0 j d) = vc j.val := fun j => by
    show _ = if hk : j.val < 128 then _ else _
    rw [dif_pos j.isLt]
  have hz' : ∀ k, 112 ≤ k → k < 128 → zc k = z (k - 112) := fun k h1 h2 => by
    show (if hk : k < 128 then _ else _) = _
    rw [dif_pos h2, z_meta Q K KC b h i ⟨k, h2⟩, if_pos h1]
  have hv' : ∀ k, 112 ≤ k → k < 128 → vc k = key V VC h.val (k - 112) d.val := fun k h1 h2 => by
    show (if hk : k < 128 then _ else _) = _
    rw [dif_pos h2]
    unfold key
    rw [if_pos (by omega), show 112 + (k - 112) = k by omega]
    unfold gC
    have : (⟨k % 128, Nat.mod_lt _ (by decide)⟩ : Fin 128) = ⟨k, h2⟩ := Fin.ext (Nat.mod_eq_of_lt h2)
    rw [this]; rfl
  have hS : ∀ k, 112 ≤ k → (∑ k' ∈ Finset.Ico k 128, -nl (zc k')) = ∑ k' ∈ Finset.Ico (k - 112) 16, -nl (z (0 + k')) := fun k h1 => by
    rw [← shift_S z (k - 112), show 112 + (k - 112) = k by omega]
    refine Finset.sum_congr rfl fun k' hk' => ?_
    rw [Finset.mem_Ico] at hk'
    rw [hz' k' (by omega) hk'.2]
  constructor
  · rw [stepC_acc, (hs h i d).1, meta_acc _ _ i d zc vc _ hr _ _ hz hv]
    have e : (∑ k ∈ Finset.Ico 112 128, Ideal.exp2 (zc k + (∑ k' ∈ Finset.Ico k 128, -nl (zc k')) + S z (16 + 256 * b + i.val) (0 + 16)) * vc k)
        = ∑ k ∈ Finset.Ico 0 16, Ideal.exp2 (z (0 + k) + (∑ k' ∈ Finset.Ico k 16, -nl (z (0 + k'))) + S z (16 + 256 * b + i.val) (0 + 16)) * key V VC h.val (0 + k) d.val := by
      have := Finset.sum_Ico_add (fun k => Ideal.exp2 (zc k + (∑ k' ∈ Finset.Ico k 128, -nl (zc k')) + S z (16 + 256 * b + i.val) (0 + 16)) * vc k) 0 16 112
      refine this.symm.trans (Finset.sum_congr rfl fun k hk => ?_)
      rw [Finset.mem_Ico] at hk
      rw [hz' _ (by omega) (by omega), hv' _ (by omega) (by omega), hS _ (by omega), Nat.add_sub_cancel_left]
      simp only [Nat.zero_add]
    rw [e]
    exact A_adv z (fun p => key V VC h.val p d.val) _ 0 16 (by omega)
  · rw [stepC_r, meta_r _ _ i d zc _ hr _ hz, hS 112 le_rfl]
    exact S_adv z _ 0 16 (by omega)

/-! ## The walk -/

theorem flatF_lift (x : FVec Ideal S256x128 .f32) : flatF (F := Ideal) (lift x) = x := by
  funext y
  rw [eq_ix2 y]
  exact (flatF_apply (lift x) (y 0) (y 1)).trans (lift_apply x (y 0) (y 1))

theorem grow_addf (a : Vec Ideal S1x256x128 .f32) (x y : FVec Ideal S256x128 .f32) : grow (F := Ideal) a (addf x y) = grow (grow a x) y := by
  unfold grow
  rw [flatF_lift]
  refine congrArg (lift (F := Ideal)) (funext fun i => ?_)
  exact (add_assoc (flatF (F := Ideal) a i : EReal) (x i) (y i)).symm

/-- Two blocks in one sweep are two sweeps. -/
theorem step2_eq (qq : Fin 4 → FVec Ideal S256x128 .bf16) (kk vv ll ww : Fin 4 → Vec Ideal S1x256x128 .bf16) (s : St Ideal) :
    s.step2 qq kk vv ll ww = (s.step (oAcc before) (oR before) qq kk vv).step dAcc dR qq ll ww := by
  unfold St.step2 St.step
  simp only [grow_addf, flatF_lift]

theorem inv_start (b : ℕ) : ∃ lo, lo ≤ b ∧ b ≤ lo + 1 ∧ Inv Q K V KC VC b (fun _ => 16 + 256 * lo) (start (F := Ideal) Q K V b) ∧ (b = 0 ∨ lo + 1 = b) := by
  match b with
  | 0 => exact ⟨0, le_rfl, Nat.zero_le _, inv_own Q K V KC VC 0 _ (inv_zero Q K V KC VC 0), Or.inl rfl⟩
  | t + 1 =>
    refine ⟨t, Nat.le_succ t, le_rfl, ?_, Or.inr rfl⟩
    show Inv Q K V KC VC (t + 1) _ (St.step2 _ _ _ _ _ _)
    rw [step2_eq]
    exact inv_old Q K V KC VC (t + 1) t (Nat.lt_succ_self t) _ (inv_own Q K V KC VC (t + 1) _ (inv_zero Q K V KC VC (t + 1)))

theorem run_zero (qq : Fin 4 → FVec Ideal S256x128 .bf16) (n : BitVec 32) (s : St Ideal) (f : BitVec 1) : run (F := Ideal) K V qq 0 n s f = (s, n, f) := by
  rw [run]
theorem run_dead (qq : Fin 4 → FVec Ideal S256x128 .bf16) (j : ℕ) (n : BitVec 32) (s : St Ideal) (f : BitVec 1) (hf : ¬f = 1#1) : run (F := Ideal) K V qq (j + 1) n s f = (s, n, f) := by
  rw [run, if_neg hf]
theorem run_live (qq : Fin 4 → FVec Ideal S256x128 .bf16) (j : ℕ) (n : BitVec 32) (s : St Ideal) (f : BitVec 1) (hf : f = 1#1) : run (F := Ideal) K V qq (j + 1) n s f
    = run K V qq j (Scalar.addi n 1#32) (s.step dAcc dR qq (blk K j) (blk V j)) (s.step dAcc dR qq (blk K j) (blk V j)).live := by
  rw [run, if_pos hf]

/-- The walk ends at the meta tokens, or with nothing left. -/
theorem inv_run (b j : ℕ) : ∀ (n : BitVec 32) (s : St Ideal), j ≤ b → Inv Q K V KC VC b (fun _ => 16 + 256 * j) s →
    ∃ lo, lo ≤ b ∧ Inv Q K V KC VC b (fun _ => 16 + 256 * lo) (run (F := Ideal) K V (qs Q b) j n s s.live).1
      ∧ (run (F := Ideal) K V (qs Q b) j n s s.live).2.2 = (run (F := Ideal) K V (qs Q b) j n s s.live).1.live
      ∧ ((run (F := Ideal) K V (qs Q b) j n s s.live).2.2 = 1#1 → lo = 0) := by
  induction j with
  | zero =>
    intro n s hj hs
    rw [run_zero]
    dsimp only
    exact ⟨0, Nat.zero_le _, hs, rfl, fun _ => rfl⟩
  | succ j ih =>
    intro n s hj hs
    by_cases hf : s.live = 1#1
    · rw [run_live _ _ _ _ _ _ _ hf]
      exact ih _ _ (by omega) (inv_old Q K V KC VC b j (by omega) s hs)
    · rw [run_dead _ _ _ _ _ _ _ hf]
      dsimp only
      exact ⟨j + 1, hj, hs, rfl, fun h => absurd h hf⟩

theorem on_iff (l : BitVec 1) : on l ↔ l = 1#1 := by
  revert l; decide

/-- With nothing left, the state already holds the weighted values of all the visible keys. -/
theorem dead_acc (b : ℕ) (lo : ℕ) (hlo : lo ≤ b) (s : St Ideal) (hs : Inv Q K V KC VC b (fun _ => 16 + 256 * lo) s) (hl : ¬s.live = 1#1) (h : Fin 4) (i : Fin 256) (d : Fin 128) :
    s.acc h (ix3 0 i d) = A (zz Q K KC h.val (256 * b + i.val)) (fun p => key V VC h.val p d.val) (16 + 256 * b + i.val) 0 := by
  have hd : s.r h (ix3 0 i d) = (⊥ : EReal) := by
    by_contra hne
    apply hl
    show Att.live (asm s.r) = 1#1
    rw [live_iff, decide_eq_true (show ∃ x, asm s.r x ≠ (⊥ : EReal) from ⟨ix3 h i d, hne⟩)]
    rfl
  rw [(hs h i d).2] at hd
  rw [(hs h i d).1]
  exact (A_dead _ _ (Nat.zero_le _) (by show 16 + 256 * lo ≤ _; omega) hd).symm

/-- The weighted values of block `b` before the normalisation are those of all the visible keys, and the results are these normalised. -/
theorem blockOut_apply (g : S1x512.Idx → EReal) (b : ℕ) (h : Fin 4) (i : Fin 256) (d : Fin 128) :
    blockOut (F := Ideal) Q K V KC VC g b h (ix3 0 i d)
      = normed (fun k => A (zz Q K KC h.val (256 * b + i.val)) (fun p => key V VC h.val p k.val) (16 + 256 * b + i.val) 0) (gain (F := Ideal) g h (ix2 0 d)) d := by
  obtain ⟨lo, h1, h2, hs, h3⟩ := inv_start Q K V KC VC b
  have fin : ∀ s : St Ideal, (∀ k : Fin 128, s.acc h (ix3 0 i k) = A (zz Q K KC h.val (256 * b + i.val)) (fun p => key V VC h.val p k.val) (16 + 256 * b + i.val) 0) →
      s.out g h (ix3 0 i d) = normed (fun k => A (zz Q K KC h.val (256 * b + i.val)) (fun p => key V VC h.val p k.val) (16 + 256 * b + i.val) 0) (gain (F := Ideal) g h (ix2 0 d)) d := by
    intro s hk
    unfold St.out
    rw [outOf_apply]
    congr 1
    funext k
    exact hk k
  have hw : ∃ lo, lo ≤ b ∧ Inv Q K V KC VC b (fun _ => 16 + 256 * lo) (walked (F := Ideal) Q K V b).1
      ∧ (walked (F := Ideal) Q K V b).2.2 = (walked (F := Ideal) Q K V b).1.live ∧ ((walked (F := Ideal) Q K V b).2.2 = 1#1 → lo = 0) := by
    clear fin
    cases b with
    | zero =>
      have e : walked (F := Ideal) Q K V 0 = (start (F := Ideal) Q K V 0, 1#32, (start (F := Ideal) Q K V 0).live) := by rw [walked]
      rw [e]
      dsimp only
      exact ⟨lo, h1, hs, rfl, fun _ => by omega⟩
    | succ t =>
      have : lo = t := by omega
      subst this
      have e : walked (F := Ideal) Q K V (lo + 1) = run (F := Ideal) K V (qs Q (lo + 1)) lo 1#32 (start (F := Ideal) Q K V (lo + 1)) (start (F := Ideal) Q K V (lo + 1)).live := by rw [walked]
      rw [e]
      exact inv_run Q K V KC VC (lo + 1) lo _ _ h1 hs
  obtain ⟨lo', g1, g2, g3, g4⟩ := hw
  unfold blockOut
  by_cases hl : on (start (F := Ideal) Q K V b).live
  · rw [if_pos hl]
    apply fin
    intro k
    unfold ended
    by_cases hl' : on (walked (F := Ideal) Q K V b).2.2
    · rw [if_pos hl']
      have : lo' = 0 := g4 ((on_iff _).1 hl')
      subst this
      exact (inv_meta Q K V KC VC b _ g2 h i k).1
    · rw [if_neg hl']
      refine dead_acc Q K V KC VC b lo' g1 _ g2 ?_ h i k
      rw [← g3]
      exact fun hc => hl' ((on_iff _).2 hc)
  · rw [if_neg hl]
    apply fin
    intro k
    exact dead_acc Q K V KC VC b lo h1 _ hs (fun hc => hl ((on_iff _).2 hc)) h i k

end Inv

end Cert.KernelIdeal.Att

end
-- ==== Proof.Val.Ref.lean ====
/-
  The reference at an index. Every result is the sum, over the visible keys, of a key's weight times its value, normalised.
-/
module

public import proofs.«01_k».proof.Proof.Gen.ReferenceIdeal.Read
public import proofs.«01_k».proof.Proof.Val.Walk

@[expose] public section

set_option synthInstance.maxSize 4096

noncomputable section

namespace Cert.ReferenceIdeal.Att

open Idealize.ShloMosaic Idealize.ShloMosaic.TcCoe Idealize.ShloMosaic.ValueIdx
open Cert.ReferenceIdeal Cert.ReferenceIdeal.Gen Cert.ReferenceIdeal.Read
open Cert.Val
open Cert.KernelIdeal.Att (sum_cols normed sel_ofBool)

/-- An array at a batch, a token and a lane. -/
def gX (X : S8x4096x1024.Idx → EReal) (b s e : ℕ) : EReal :=
  X (ix3 ⟨b % 8, Nat.mod_lt _ (by decide)⟩ ⟨s % 4096, Nat.mod_lt _ (by decide)⟩ ⟨e % 1024, Nat.mod_lt _ (by decide)⟩)
/-- The meta tokens' array at a row and a lane. -/
def gY (X : S1x128x1024.Idx → EReal) (m e : ℕ) : EReal := X (ix3 0 ⟨m % 128, Nat.mod_lt _ (by decide)⟩ ⟨e % 1024, Nat.mod_lt _ (by decide)⟩)
/-- The row at position `p`: the meta tokens' come first. -/
def keyR (X : S8x4096x1024.Idx → EReal) (Y : S1x128x1024.Idx → EReal) (b H p d : ℕ) : EReal :=
  if p < 16 then gY Y (112 + p) (128 * H + d) else gX X b (p - 16) (128 * H + d)
/-- The natural-base score of position `p` for query `t`. -/
def zR (x0 x1 : S8x4096x1024.Idx → EReal) (x3 : S1x128x1024.Idx → EReal) (b H t p : ℕ) : EReal :=
  (∑ d : Fin 128, gX x0 b t (128 * H + d.val) * keyR x1 x3 b H p d.val) * Ideal.ofBits .f32 0x3DB504F3#32
/-- The weight of position `p` among the first `P`. -/
def wR (z : ℕ → EReal) (P p : ℕ) : EReal := Ideal.exp (ls (z p) + ((∑ x ∈ Finset.Ico p P, ls (-z x)) - ls (-z p)))

theorem gX_at (X : S8x4096x1024.Idx → EReal) (b : Fin 8) (s : Fin 4096) (e : Fin 1024) : gX X b.val s.val e.val = X (ix3 b s e) := by
  unfold gX
  congr 1
  have h1 : (⟨b.val % 8, Nat.mod_lt _ (by decide)⟩ : Fin 8) = b := Fin.ext (Nat.mod_eq_of_lt b.isLt)
  have h2 : (⟨s.val % 4096, Nat.mod_lt _ (by decide)⟩ : Fin 4096) = s := Fin.ext (Nat.mod_eq_of_lt s.isLt)
  have h3 : (⟨e.val % 1024, Nat.mod_lt _ (by decide)⟩ : Fin 1024) = e := Fin.ext (Nat.mod_eq_of_lt e.isLt)
  rw [h1, h2, h3]
theorem gY_at (X : S1x128x1024.Idx → EReal) (m : Fin 128) (e : Fin 1024) : gY X m.val e.val = X (ix3 0 m e) := by
  unfold gY
  congr 1
  have h2 : (⟨m.val % 128, Nat.mod_lt _ (by decide)⟩ : Fin 128) = m := Fin.ext (Nat.mod_eq_of_lt m.isLt)
  have h3 : (⟨e.val % 1024, Nat.mod_lt _ (by decide)⟩ : Fin 1024) = e := Fin.ext (Nat.mod_eq_of_lt e.isLt)
  rw [h2, h3]

/-! ## The keys and the values with the meta tokens' first -/

theorem joined (y : S8x16x1024.Idx → EReal) (x : S8x4096x1024.Idx → EReal) (Y : S1x128x1024.Idx → EReal)
    (hy : ∀ (b : Fin 8) (p : Fin 16) (e : Fin 1024), y (ix3 b p e) = gY Y (112 + p.val) e.val) (b : Fin 8) (p : Fin 4112) (e : Fin 1024) :
    concatenate S8x4112x1024 1 [⟨S8x16x1024, y⟩, ⟨S8x4096x1024, x⟩] concatenates_S8x16x1024_S8x4096x1024_S8x4112x1024_d1 (ix3 b p e)
      = if p.val < 16 then gY Y (112 + p.val) e.val else gX x b.val (p.val - 16) e.val := by
  by_cases h : p.val < 16
  · rw [if_pos h]
    refine (concatenate_pair_apply_left (t := S8x4112x1024) (s₁ := S8x16x1024) (s₂ := S8x4096x1024) 1 y x concatenates_S8x16x1024_S8x4096x1024_S8x4112x1024_d1 (ix3 b p e) rfl
      (ix3 b ⟨p.val, h⟩ e) (fun c => by
      match c with
      | ⟨0, _⟩ => rfl
      | ⟨1, _⟩ => rfl
      | ⟨2, _⟩ => rfl)).trans (hy _ _ _)
  · rw [if_neg h]
    have hp := p.isLt
    refine (concatenate_pair_apply_right (t := S8x4112x1024) (s₁ := S8x16x1024) (s₂ := S8x4096x1024) 1 y x concatenates_S8x16x1024_S8x4096x1024_S8x4112x1024_d1 (ix3 b p e) rfl rfl
      (ix3 b ⟨p.val - 16, by omega⟩ e) (fun c hc => by
      match c with
      | ⟨0, _⟩ => rfl
      | ⟨1, _⟩ => exact absurd rfl hc
      | ⟨2, _⟩ => rfl) (by
        show p.val - 16 + 16 = p.val
        omega)).trans (gX_at x b ⟨p.val - 16, by omega⟩ e).symm

section
variable (x0 : (⟨S8x4096x1024, .f32⟩ : BufTy).Contents (Elt Ideal)) (x1 x2 : (⟨S8x4096x1024, .bf16⟩ : BufTy).Contents (Elt Ideal))
  (x3 x4 : (⟨S1x128x1024, .bf16⟩ : BufTy).Contents (Elt Ideal)) (x5 : (⟨S1x1024, .f32⟩ : BufTy).Contents (Elt Ideal))

theorem v1_at (b : Fin 8) (p : Fin 16) (e : Fin 1024) : val_main_v1 (F := Ideal) x3 (ix3 b p e) = gY x3 (112 + p.val) e.val := by
  rw [val_main_v1_apply, val_main_v0_apply]
  have hp : 112 + p.val < 128 := by have := p.isLt; omega
  refine Eq.trans ?_ (gY_at x3 ⟨112 + p.val, hp⟩ e).symm
  refine congrArg x3 (funext fun a => Fin.ext ?_)
  match a with
  | ⟨0, _⟩ => rfl
  | ⟨1, _⟩ => rfl
  | ⟨2, _⟩ => rfl
theorem v4_at (b : Fin 8) (p : Fin 16) (e : Fin 1024) : val_main_v4 (F := Ideal) x4 (ix3 b p e) = gY x4 (112 + p.val) e.val := by
  rw [val_main_v4_apply, val_main_v3_apply]
  have hp : 112 + p.val < 128 := by have := p.isLt; omega
  refine Eq.trans ?_ (gY_at x4 ⟨112 + p.val, hp⟩ e).symm
  refine congrArg x4 (funext fun a => Fin.ext ?_)
  match a with
  | ⟨0, _⟩ => rfl
  | ⟨1, _⟩ => rfl
  | ⟨2, _⟩ => rfl

/-- Lane `d` of head `H`. -/
def lane (H : Fin 8) (d : Fin 128) : Fin 1024 := ⟨128 * H.val + d.val, by have := H.isLt; have := d.isLt; omega⟩

theorem v10_at (b H : Fin 8) (p : Fin 4112) (d : Fin 128) : val_main_v10 (F := Ideal) x1 x3 (ix4 b H p d) = keyR x1 x3 b.val H.val p.val d.val := by
  rw [val_main_v10_apply, val_main_v9_apply, val_main_v8_apply]
  refine Eq.trans ?_ (joined (val_main_v1 (F := Ideal) x3) x1 x3 (v1_at x3) b p (lane H d))
  show val_main_v2 (F := Ideal) x1 x3 _ = val_main_v2 (F := Ideal) x1 x3 _
  refine congrArg (val_main_v2 (F := Ideal) x1 x3) (funext fun a => Fin.ext ?_)
  have hb := b.isLt
  have hH := H.isLt
  have hp := p.isLt
  have hd := d.isLt
  match a with
  | ⟨0, _⟩ => show (((b.val * 4112 + p.val) * 8 + H.val) * 128 + d.val) / 4210688 = b.val; omega
  | ⟨1, _⟩ => show (((b.val * 4112 + p.val) * 8 + H.val) * 128 + d.val) / 1024 % 4112 = p.val; omega
  | ⟨2, _⟩ => show (((b.val * 4112 + p.val) * 8 + H.val) * 128 + d.val) % 1024 = 128 * H.val + d.val; omega
theorem v13_at (b H : Fin 8) (p : Fin 4112) (d : Fin 128) : val_main_v13 (F := Ideal) x2 x4 (ix4 b H p d) = keyR x2 x4 b.val H.val p.val d.val := by
  rw [val_main_v13_apply, val_main_v12_apply, val_main_v11_apply]
  refine Eq.trans ?_ (joined (val_main_v4 (F := Ideal) x4) x2 x4 (v4_at x4) b p (lane H d))
  show val_main_v5 (F := Ideal) x2 x4 _ = val_main_v5 (F := Ideal) x2 x4 _
  refine congrArg (val_main_v5 (F := Ideal) x2 x4) (funext fun a => Fin.ext ?_)
  have hb := b.isLt
  have hH := H.isLt
  have hp := p.isLt
  have hd := d.isLt
  match a with
  | ⟨0, _⟩ => show (((b.val * 4112 + p.val) * 8 + H.val) * 128 + d.val) / 4210688 = b.val; omega
  | ⟨1, _⟩ => show (((b.val * 4112 + p.val) * 8 + H.val) * 128 + d.val) / 1024 % 4112 = p.val; omega
  | ⟨2, _⟩ => show (((b.val * 4112 + p.val) * 8 + H.val) * 128 + d.val) % 1024 = 128 * H.val + d.val; omega
theorem v7_at (b H : Fin 8) (t : Fin 4096) (d : Fin 128) : val_main_v7 (F := Ideal) x0 (ix4 b H t d) = gX x0 b.val t.val (128 * H.val + d.val) := by
  rw [val_main_v7_apply, val_main_v6_apply]
  refine Eq.trans ?_ (gX_at x0 b t (lane H d)).symm
  refine congrArg x0 (funext fun a => Fin.ext ?_)
  have hb := b.isLt
  have hH := H.isLt
  have ht := t.isLt
  have hd := d.isLt
  match a with
  | ⟨0, _⟩ => show (((b.val * 4096 + t.val) * 8 + H.val) * 128 + d.val) / 4194304 = b.val; omega
  | ⟨1, _⟩ => show (((b.val * 4096 + t.val) * 8 + H.val) * 128 + d.val) / 1024 % 4096 = t.val; omega
  | ⟨2, _⟩ => show (((b.val * 4096 + t.val) * 8 + H.val) * 128 + d.val) % 1024 = 128 * H.val + d.val; omega

/-! ## The scores -/

theorem v20_at (b H : Fin 8) (t : Fin 4096) (p : Fin 4112) : val_main_v20 (F := Ideal) x0 x1 x3 (ix4 b H t p) = zR x0 x1 x3 b.val H.val t.val p.val := by
  rw [val_main_v20_apply, val_main_v18_apply, val_main_v19_apply, val_main_cst_apply]
  refine congrArg (· * Ideal.ofBits .f32 0x3DB504F3#32) (Finset.sum_congr rfl fun d _ => ?_)
  refine congrArg₂ (· * ·) ?_ ?_
  · refine Eq.trans (congrArg (val_main_v7 (F := Ideal) x0) (funext fun a => ?_)) (v7_at x0 b H t d)
    match a with
    | ⟨0, _⟩ => rfl
    | ⟨1, _⟩ => rfl
    | ⟨2, _⟩ => rfl
    | ⟨3, _⟩ => rfl
  · refine Eq.trans (congrArg (val_main_v10 (F := Ideal) x1 x3) (funext fun a => ?_)) (v10_at x1 x3 b H p d)
    match a with
    | ⟨0, _⟩ => rfl
    | ⟨1, _⟩ => rfl
    | ⟨2, _⟩ => rfl
    | ⟨3, _⟩ => rfl

/-- A key is visible to the queries after it. -/
theorem v25_at (t : Fin 4096) (p : Fin 4112) : val_main_v25 (F := Ideal) (ix2 t p) = BitVec.ofBool (decide (p.val < 16 + t.val)) := by
  rw [val_main_v25_apply, val_main_v23_apply, val_main_v21_apply, val_main_v17_apply, val_main_v24_apply, val_main_v22_apply, val_main_v16_apply, val_main_v15_apply, val_main_v14_apply, val_main_c_apply]
  show IntOp.cmpi .slt (BitVec.ofNat 32 p.val) (BitVec.ofNat 32 16 + BitVec.ofNat 32 t.val) = _
  rw [← BitVec.ofNat_add, WordCmp.cmpi_slt_ofNat (by have := p.isLt; show p.val < 2 ^ 31; omega) (by have := t.isLt; show 16 + t.val < 2 ^ 31; omega)]

/-- Its logarithm of the logistic function, as the reference computes it. -/
theorem logistic (y z : EReal) (hz : z = -y) :
    -(Scalar.select (Ideal.cmp .une (z - Ideal.ofBits .f32 0x00000000#32) (z - Ideal.ofBits .f32 0x00000000#32)) (z + Ideal.ofBits .f32 0x00000000#32)
      (max z (Ideal.ofBits .f32 0x00000000#32) + Ideal.log1p (Ideal.exp (-(max (z - Ideal.ofBits .f32 0x00000000#32) (-(z - Ideal.ofBits .f32 0x00000000#32))))))) = ls y := by
  subst hz
  have e : Ideal.cmp .une (-y - Ideal.ofBits .f32 0x00000000#32) (-y - Ideal.ofBits .f32 0x00000000#32) = BitVec.ofBool (decide False) := by
    show BitVec.ofBool (decide _) = _
    refine congrArg BitVec.ofBool ?_
    rw [decide_eq_decide]
    exact ⟨fun h => h rfl, fun h => h.elim⟩
  rw [e, sel_ofBool, if_neg not_false, Ideal.ofBits_zero_f32, sub_zero]
  rfl

theorem v27_at (b H : Fin 8) (t : Fin 4096) (p : Fin 4112) : val_main_v27 (F := Ideal) x0 x1 x3 (ix4 b H t p) = ls (-(zR x0 x1 x3 b.val H.val t.val p.val)) := by
  rw [val_main_v27_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply, val_main_call0_call0_v7_apply,
    val_main_call0_call0_v3_apply, val_main_call0_call0_v0_apply, val_main_call0_call0_v2_apply, val_main_call0_call0_v5_apply,
    val_main_call0_v0_apply, val_main_v26_apply, v20_at]
  exact logistic _ _ rfl

theorem v31_at (b H : Fin 8) (t : Fin 4096) (p : Fin 4112) : val_main_v31 (F := Ideal) x0 x1 x3 (ix4 b H t p) = ls (zR x0 x1 x3 b.val H.val t.val p.val) := by
  rw [val_main_v31_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply, val_main_call3_call0_v7_apply,
    val_main_call3_call0_v3_apply, val_main_call3_call0_v0_apply, val_main_call3_call0_v2_apply, val_main_call3_call0_v5_apply,
    val_main_call3_v0_apply, v20_at]
  exact logistic _ _ rfl

theorem v28_at (b H : Fin 8) (t : Fin 4096) (p : Fin 4112) :
    val_main_v28 (F := Ideal) x0 x1 x3 (ix4 b H t p) = if p.val < 16 + t.val then ls (-(zR x0 x1 x3 b.val H.val t.val p.val)) else 0 := by
  rw [val_main_v28_apply, val_main_call1_v1_apply, v27_at]
  have z : val_main_call1_v2 (F := Ideal) (ix4 b H t p) = (0 : EReal) := by
    rw [val_main_call1_v2_apply]
    exact Ideal.ofBits_zero_f32
  have e : val_main_v25 (F := Ideal) (idx_main_call1_v1 (ix4 b H t p)) = BitVec.ofBool (decide (p.val < 16 + t.val)) := by
    refine Eq.trans (congrArg (val_main_v25 (F := Ideal)) (funext fun a => ?_)) (v25_at t p)
    match a with
    | ⟨0, _⟩ => rfl
    | ⟨1, _⟩ => rfl
  rw [e, z, sel_ofBool]

/-! ## The sums to the right -/

theorem foldl_add {ι : Type} (g : ι → EReal) : ∀ (l : List ι) (v : EReal), l.foldl (fun r n => r + g n) v = v + (l.map g).sum
  | [], v => (add_zero v).symm
  | n :: l, v => by
    rw [List.foldl_cons, foldl_add g l, List.map_cons, List.sum_cons, add_assoc]

/-- The indices of a window: all the axes but the last have one. -/
def winEquiv : (⟨4, ![1, 1, 1, 4112]⟩ : Shape).Idx ≃ Fin 4112 where
  toFun w := w 3
  invFun k := fun a => match a with
    | ⟨0, _⟩ => (0 : Fin 1)
    | ⟨1, _⟩ => (0 : Fin 1)
    | ⟨2, _⟩ => (0 : Fin 1)
    | ⟨3, _⟩ => k
  left_inv w := funext fun a => match a with
    | ⟨0, _⟩ => Subsingleton.elim (α := Fin 1) _ _
    | ⟨1, _⟩ => Subsingleton.elim (α := Fin 1) _ _
    | ⟨2, _⟩ => Subsingleton.elim (α := Fin 1) _ _
    | ⟨3, _⟩ => rfl
  right_inv k := rfl

theorem window_sum (x : S8x8x4096x4112.Idx → EReal) (b H : Fin 8) (t : Fin 4096) (p : Fin 4112) :
    Ideal.hostReduceWindowAdd (s := S8x8x4096x4112) ![1, 1, 1, 4112] ![1, 1, 1, 1] ![0, 0, 0, 0] ![0, 0, 0, 4111]
        reduceWindows_S8x8x4096x4112_S8x8x4096x4112_w1s1p0_0_w1s1p0_0_w1s1p0_0_w4112s1p0_4111 x 0 (ix4 b H t p)
      = ∑ k : Fin 4112, if hk : p.val + k.val < 4112 then x (ix4 b H t ⟨p.val + k.val, hk⟩) else 0 := by
  unfold Ideal.hostReduceWindowAdd Host.reduceWindow
  dsimp only
  rw [foldl_add, zero_add, ← Fin.sum_univ_def]
  rw [← Equiv.sum_comp ((⟨4, ![1, 1, 1, 4112]⟩ : Shape).rowMajor.symm.trans winEquiv)]
  refine Finset.sum_congr rfl fun n _ => ?_
  let w : (⟨4, ![1, 1, 1, 4112]⟩ : Shape).Idx := (⟨4, ![1, 1, 1, 4112]⟩ : Shape).rowMajor.symm n
  show _ = if hk : p.val + (w 3).val < 4112 then x (ix4 b H t ⟨p.val + (w 3).val, hk⟩) else 0
  have h0 : (w 0).val = 0 := Nat.lt_one_iff.1 (w 0).isLt
  have h1 : (w 1).val = 0 := Nat.lt_one_iff.1 (w 1).isLt
  have h2 : (w 2).val = 0 := Nat.lt_one_iff.1 (w 2).isLt
  have hb := b.isLt
  have hH := H.isLt
  have ht := t.isLt
  by_cases hk : p.val + (w 3).val < 4112
  · rw [dif_pos hk, dif_pos (fun a => by
      match a with
      | ⟨0, _⟩ => show 0 ≤ b.val * 1 + (w 0).val ∧ b.val * 1 + (w 0).val - 0 < 8; omega
      | ⟨1, _⟩ => show 0 ≤ H.val * 1 + (w 1).val ∧ H.val * 1 + (w 1).val - 0 < 8; omega
      | ⟨2, _⟩ => show 0 ≤ t.val * 1 + (w 2).val ∧ t.val * 1 + (w 2).val - 0 < 4096; omega
      | ⟨3, _⟩ => show 0 ≤ p.val * 1 + (w 3).val ∧ p.val * 1 + (w 3).val - 0 < 4112; omega)]
    refine congrArg x (funext fun a => Fin.ext ?_)
    match a with
    | ⟨0, _⟩ => show b.val * 1 + (w 0).val - 0 = b.val; omega
    | ⟨1, _⟩ => show H.val * 1 + (w 1).val - 0 = H.val; omega
    | ⟨2, _⟩ => show t.val * 1 + (w 2).val - 0 = t.val; omega
    | ⟨3, _⟩ => show p.val * 1 + (w 3).val - 0 = p.val + (w 3).val; omega
  · rw [dif_neg hk, dif_neg (fun hin => hk (by
      have h : 0 ≤ p.val * 1 + (w 3).val ∧ p.val * 1 + (w 3).val - 0 < 4112 := hin 3
      omega))]

/-- The sum of what the visible positions from `p` on leave. -/
theorem v29_at (b H : Fin 8) (t : Fin 4096) (p : Fin 4112) (hp : p.val < 16 + t.val) :
    val_main_v29 (F := Ideal) x0 x1 x3 (ix4 b H t p) = ∑ n ∈ Finset.Ico p.val (16 + t.val), ls (-(zR x0 x1 x3 b.val H.val t.val n)) := by
  have ht := t.isLt
  have z : val_main_call2_v0 (F := Ideal) (Shape.Idx.first h_S_) = (0 : EReal) := by
    rw [val_main_call2_v0_apply]
    exact Ideal.ofBits_zero_f32
  unfold val_main_v29 Host.reduceWindowAdd
  rw [Ideal.hostReduceWindowAdd_def, z, window_sum]
  have e : (∑ n ∈ Finset.Ico p.val (16 + t.val), ls (-(zR x0 x1 x3 b.val H.val t.val n)))
      = ∑ k : Fin 4112, if 0 ≤ k.val ∧ k.val < 16 + t.val - p.val then ls (-(zR x0 x1 x3 b.val H.val t.val (k.val + p.val))) else 0 := by
    rw [sum_cols 4112 0 (16 + t.val - p.val) (by omega) (fun k => ls (-(zR x0 x1 x3 b.val H.val t.val (k + p.val)))),
      Finset.sum_Ico_add' (fun n => ls (-(zR x0 x1 x3 b.val H.val t.val n))) 0 (16 + t.val - p.val) p.val, Nat.zero_add, Nat.sub_add_cancel hp.le]
  rw [e]
  refine Finset.sum_congr rfl fun k _ => ?_
  by_cases hk : p.val + k.val < 4112
  · rw [dif_pos hk, v28_at]
    show (if p.val + k.val < 16 + t.val then ls (-(zR x0 x1 x3 b.val H.val t.val (p.val + k.val))) else 0) = _
    rw [Nat.add_comm p.val k.val]
    by_cases h : k.val + p.val < 16 + t.val
    · rw [if_pos h, if_pos ⟨Nat.zero_le _, by omega⟩]
    · rw [if_neg h, if_neg (by omega)]
  · rw [dif_neg hk, if_neg (by omega)]

/-- The weight of a key. -/
theorem v34_at (b H : Fin 8) (t : Fin 4096) (p : Fin 4112) :
    val_main_v34 (F := Ideal) x0 x1 x3 (ix4 b H t p) = if p.val < 16 + t.val then wR (zR x0 x1 x3 b.val H.val t.val) (16 + t.val) p.val else 0 := by
  rw [val_main_v34_apply, val_main_call4_v1_apply]
  have z : val_main_call4_v2 (F := Ideal) (ix4 b H t p) = (0 : EReal) := by
    rw [val_main_call4_v2_apply]
    exact Ideal.ofBits_zero_f32
  have e : val_main_v25 (F := Ideal) (idx_main_call4_v1 (ix4 b H t p)) = BitVec.ofBool (decide (p.val < 16 + t.val)) := by
    refine Eq.trans (congrArg (val_main_v25 (F := Ideal)) (funext fun a => ?_)) (v25_at t p)
    match a with
    | ⟨0, _⟩ => rfl
    | ⟨1, _⟩ => rfl
  rw [e, z, sel_ofBool]
  by_cases h : p.val < 16 + t.val
  · rw [if_pos h, if_pos h, val_main_v33_apply, val_main_v32_apply, val_main_v30_apply, v31_at, v28_at, v29_at x0 x1 x3 b H t p h, if_pos h]
    rfl
  · rw [if_neg h, if_neg h]

/-- The weighted values. -/
theorem v35_at (b H : Fin 8) (t : Fin 4096) (d : Fin 128) :
    val_main_v35 (F := Ideal) x0 x1 x2 x3 x4 (ix4 b H t d)
      = ∑ p ∈ Finset.Ico 0 (16 + t.val), wR (zR x0 x1 x3 b.val H.val t.val) (16 + t.val) p * keyR x2 x4 b.val H.val p d.val := by
  rw [val_main_v35_apply, ← sum_cols 4112 0 (16 + t.val) (by have := t.isLt; omega)]
  refine Finset.sum_congr rfl fun p _ => ?_
  have e1 : val_main_v34 (F := Ideal) x0 x1 x3 (lidx_main_v35 (ix4 b H t d) p) = _ := Eq.trans (congrArg (val_main_v34 (F := Ideal) x0 x1 x3) (funext fun a => by
    match a with
    | ⟨0, _⟩ => rfl
    | ⟨1, _⟩ => rfl
    | ⟨2, _⟩ => rfl
    | ⟨3, _⟩ => rfl)) (v34_at x0 x1 x3 b H t p)
  have e2 : val_main_v13 (F := Ideal) x2 x4 (ridx_main_v35 (ix4 b H t d) p) = _ := Eq.trans (congrArg (val_main_v13 (F := Ideal) x2 x4) (funext fun a => by
    match a with
    | ⟨0, _⟩ => rfl
    | ⟨1, _⟩ => rfl
    | ⟨2, _⟩ => rfl
    | ⟨3, _⟩ => rfl)) (v13_at x2 x4 b H p d)
  rw [e1, e2]
  by_cases h : p.val < 16 + t.val
  · rw [if_pos h, if_pos ⟨Nat.zero_le _, h⟩]
  · rw [if_neg h, if_neg (fun h' => h h'.2), zero_mul]

/-! ## The normalisation -/

theorem v36_at (b H : Fin 8) (t : Fin 4096) (d : Fin 128) :
    val_main_v36 (F := Ideal) x0 x1 x2 x3 x4 (ix4 b t H d)
      = ∑ p ∈ Finset.Ico 0 (16 + t.val), wR (zR x0 x1 x3 b.val H.val t.val) (16 + t.val) p * keyR x2 x4 b.val H.val p d.val := by
  rw [val_main_v36_apply]
  refine Eq.trans (congrArg (val_main_v35 (F := Ideal) x0 x1 x2 x3 x4) (funext fun a => ?_)) (v35_at x0 x1 x2 x3 x4 b H t d)
  match a with
  | ⟨0, _⟩ => rfl
  | ⟨1, _⟩ => rfl
  | ⟨2, _⟩ => rfl
  | ⟨3, _⟩ => rfl

/-- The reference's result: the weighted values, normalised and scaled by the gain. -/
theorem v52_at (b H : Fin 8) (t : Fin 4096) (d : Fin 128) :
    val_main_v52 (F := Ideal) x0 x1 x2 x3 x4 x5 (ix3 b t (lane H d))
      = normed (fun k => ∑ p ∈ Finset.Ico 0 (16 + t.val), wR (zR x0 x1 x3 b.val H.val t.val) (16 + t.val) p * keyR x2 x4 b.val H.val p k.val) (x5 (ix2 0 (lane H d))) d := by
  have hb := b.isLt
  have hH := H.isLt
  have ht := t.isLt
  have hd := d.isLt
  have e : idx_main_v51 (ix3 b t (lane H d)) = ix4 b t H d := funext fun a => Fin.ext (by
    match a with
    | ⟨0, _⟩ => show ((b.val * 4096 + t.val) * 1024 + (128 * H.val + d.val)) / 4194304 = b.val; omega
    | ⟨1, _⟩ => show ((b.val * 4096 + t.val) * 1024 + (128 * H.val + d.val)) / 1024 % 4096 = t.val; omega
    | ⟨2, _⟩ => show ((b.val * 4096 + t.val) * 1024 + (128 * H.val + d.val)) / 128 % 8 = H.val; omega
    | ⟨3, _⟩ => show ((b.val * 4096 + t.val) * 1024 + (128 * H.val + d.val)) % 128 = d.val; omega)
  have eg : val_main_v49 (F := Ideal) x5 (ix4 b t H d) = x5 (ix2 0 (lane H d)) := by
    rw [val_main_v49_apply, val_main_v48_apply, val_main_v47_apply]
    refine congrArg x5 (funext fun a => Fin.ext ?_)
    match a with
    | ⟨0, _⟩ => rfl
    | ⟨1, _⟩ => show (H.val * 128 + d.val) % 1024 = 128 * H.val + d.val; omega
  have es : val_main_v38 (F := Ideal) x0 x1 x2 x3 x4 (ix3 b t H) = ∑ k : Fin 128, val_main_v36 (F := Ideal) x0 x1 x2 x3 x4 (ix4 b t H k) * val_main_v36 (F := Ideal) x0 x1 x2 x3 x4 (ix4 b t H k) := by
    rw [val_main_v38_apply, val_main_cst_2_apply]
    refine Eq.trans (congrArg (· + _) Ideal.ofBits_zero_f32) ((zero_add _).trans (Finset.sum_congr rfl fun k _ => ?_))
    refine Eq.trans (congrArg (val_main_v37 (F := Ideal) x0 x1 x2 x3 x4) (a₂ := ix4 b t H k) (funext fun a => ?_)) rfl
    match a with
    | ⟨0, _⟩ => rfl
    | ⟨1, _⟩ => rfl
    | ⟨2, _⟩ => rfl
    | ⟨3, _⟩ => rfl
  have es' : val_main_v39 (F := Ideal) x0 x1 x2 x3 x4 (idx_main_v45 (ix4 b t H d)) = val_main_v38 (F := Ideal) x0 x1 x2 x3 x4 (ix3 b t H) := by
    rw [val_main_v39_apply]
    refine congrArg (val_main_v38 (F := Ideal) x0 x1 x2 x3 x4) (funext fun a => ?_)
    match a with
    | ⟨0, _⟩ => rfl
    | ⟨1, _⟩ => rfl
    | ⟨2, _⟩ => rfl
  rw [val_main_v52_apply, val_main_v51_apply, e, val_main_v50_apply, eg, val_main_v46_apply, val_main_v45_apply, val_main_v44_apply, val_main_v43_apply, val_main_v41_apply,
    val_main_v40_apply, val_main_v42_apply, val_main_cst_3_apply, val_main_cst_4_apply, es', es]
  simp only [v36_at]
  rfl

end

end Cert.ReferenceIdeal.Att

end
-- ==== Proof.Val.Join.lean ====
/-
  A block's results are the reference's: the kernel's base-2 weights are the reference's natural-base ones.
-/
module

public import proofs.«01_k».proof.Proof.Val.Ref

@[expose] public section

set_option synthInstance.maxSize 4096

noncomputable section

namespace Cert.Join

open Idealize.ShloMosaic Idealize.ShloMosaic.TcCoe Idealize.ShloMosaic.ValueIdx
open Cert.Val
open Cert.KernelIdeal.Att (gB gC key zz normed gain blockOut blockOut_apply)
open Cert.ReferenceIdeal.Att (gX gY keyR zR wR gX_at gY_at)

/-- The reference's scale, `128 ^ (-1/2)` rounded, is a positive real number. -/
theorem scale_real : ∃ r : ℝ, 0 < r ∧ Ideal.ofBits .f32 0x3DB504F3#32 = (r : EReal) := by
  refine ⟨11863283 * ((2 : ℝ) ^ 27)⁻¹, by positivity, ?_⟩
  simp [Ideal.ofBits, Ideal.ieee]

/-- The factor the queries arrive with. -/
def qScale : EReal := Ideal.div (Ideal.ofBits .f32 0x3DB504F3#32) (Ideal.log (Ideal.ofBits .f32 0x40000000#32))

theorem ofBits_two : Ideal.ofBits .f32 0x40000000#32 = ((2 : ℝ) : EReal) := by
  simp [Ideal.ofBits, Ideal.ieee]; rw [← EReal.coe_mul]; norm_num

theorem qScale_mul : qScale * (ln2 : EReal) = Ideal.ofBits .f32 0x3DB504F3#32 := by
  obtain ⟨r, hr, e⟩ := scale_real
  unfold qScale
  rw [e, ofBits_two]
  have h2 : Ideal.log ((2 : ℝ) : EReal) = (ln2 : EReal) := log_coe (by norm_num)
  rw [h2]
  have h0 : (ln2 : EReal) ≠ 0 := by exact_mod_cast ln2_pos.ne'
  unfold Ideal.div
  rw [if_neg h0, ← EReal.coe_inv, ← EReal.coe_mul, ← EReal.coe_mul, mul_assoc, inv_mul_cancel₀ ln2_pos.ne', mul_one]

section
variable (x0 x1 x2 : Cert.ReferenceIdeal.S8x4096x1024.Idx → EReal) (x3 x4 : Cert.ReferenceIdeal.S1x128x1024.Idx → EReal) (x5 : Cert.ReferenceIdeal.S1x1024.Idx → EReal)
  (Q K V : Cert.KernelIdeal.S1x4096x512.Idx → EReal) (KC VC : Cert.KernelIdeal.S1x128x512.Idx → EReal) (G : Cert.KernelIdeal.S1x512.Idx → EReal)
  (b g : ℕ)

/-- A block of the arrays of a batch and a group of heads. -/
def IsBlk (c : EReal) (x : Cert.ReferenceIdeal.S8x4096x1024.Idx → EReal) (B : Cert.KernelIdeal.S1x4096x512.Idx → EReal) : Prop :=
  ∀ s e : ℕ, s < 4096 → e < 512 → gB B s e = gX x b s (512 * g + e) * c
def IsBlkC (y : Cert.ReferenceIdeal.S1x128x1024.Idx → EReal) (B : Cert.KernelIdeal.S1x128x512.Idx → EReal) : Prop :=
  ∀ s e : ℕ, s < 128 → e < 512 → gC B s e = gY y s (512 * g + e)

theorem key_eq (hK : IsBlk b g 1 x1 K) (hC : IsBlkC g x3 KC) (h : Fin 4) (p : ℕ) (hp : p < 4112) (d : Fin 128) :
    key K KC h.val p d.val = keyR x1 x3 b (4 * g + h.val) p d.val := by
  have hh := h.isLt
  have hd := d.isLt
  have e : 512 * g + (128 * h.val + d.val) = 128 * (4 * g + h.val) + d.val := by omega
  unfold key keyR
  by_cases h16 : p < 16
  · rw [if_pos h16, if_pos h16, hC _ _ (by omega) (by omega), e]
  · rw [if_neg h16, if_neg h16, hK _ _ (by omega) (by omega), e, mul_one]

theorem z_eq (hQ : IsBlk b g qScale x0 Q) (hK : IsBlk b g 1 x1 K) (hC : IsBlkC g x3 KC) (h : Fin 4) (t p : ℕ) (ht : t < 4096) (hp : p < 4112) :
    zz Q K KC h.val t p * (ln2 : EReal) = zR x0 x1 x3 b (4 * g + h.val) t p := by
  obtain ⟨r, hr, e⟩ := scale_real
  unfold zz zR
  rw [e, sum_mulc _ ln2_pos, sum_mulc _ hr, ← e]
  refine Finset.sum_congr rfl fun d _ => ?_
  have hh := h.isLt
  have hd := d.isLt
  have e1 : 512 * g + (128 * h.val + d.val) = 128 * (4 * g + h.val) + d.val := by omega
  rw [key_eq x1 x3 K KC b g hK hC h p hp d, hQ _ _ ht (by omega), e1, ← qScale_mul]
  generalize keyR x1 x3 b (4 * g + h.val) p d.val = k
  generalize gX x0 b t (128 * (4 * g + h.val) + d.val) = q
  rw [mul_assoc q, mul_comm qScale k, ← mul_assoc q, mul_assoc]

/-- The weighted values agree. -/
theorem acc_eq (hQ : IsBlk b g qScale x0 Q) (hK : IsBlk b g 1 x1 K) (hC : IsBlkC g x3 KC) (hV : IsBlk b g 1 x2 V) (hW : IsBlkC g x4 VC)
    (h : Fin 4) (t : ℕ) (ht : t < 4096) (d : Fin 128) :
    A (zz Q K KC h.val t) (fun p => key V VC h.val p d.val) (16 + t) 0
      = ∑ p ∈ Finset.Ico 0 (16 + t), wR (zR x0 x1 x3 b (4 * g + h.val) t) (16 + t) p * keyR x2 x4 b (4 * g + h.val) p d.val := by
  unfold A
  refine Finset.sum_congr rfl fun p hp => ?_
  rw [Finset.mem_Ico] at hp
  dsimp only
  rw [key_eq x2 x4 V VC b g hV hW h p (by omega) d, E_eq _ hp.2]
  refine congrArg (· * _) ?_
  unfold wR
  rw [z_eq x0 x1 x3 Q K KC b g hQ hK hC h t p ht (by omega)]
  refine congrArg (fun s => Ideal.exp (_ + (s - _))) (Finset.sum_congr rfl fun x hx => ?_)
  rw [Finset.mem_Ico] at hx
  rw [z_eq x0 x1 x3 Q K KC b g hQ hK hC h t x ht (by omega)]

end

end Cert.Join

end
-- ==== Proof.Val.Final.lean ====
/-
  What the kernel leaves in its result, at the extended reals: the reference's value at every index. The sixteen grid
  points are the eight batches times the two groups of four heads; each point's block of the result is a function of the
  blocks of its operands, and a block's entry is the reference's entry at the place the block sits at.
-/
module

public import proofs.«01_k».proof.Defs
public import proofs.«01_k».proof.Proof.PI.Run
public import proofs.«01_k».proof.Proof.Val.Join
public import proofs.«01_k».proof.Proof.Gen.ReferenceIdeal.Run
public import Idealize.ShloMosaic.Lib.Pipeline.ValueKit
public meta import Idealize.ShloMosaic.Lib.Pipeline.ValueKit
public import Idealize.ShloMosaic.Lib.StableHlo.Run
public import Idealize.ShloMosaic.Adequacy

@[expose] public section

set_option synthInstance.maxSize 4096

noncomputable section

namespace Cert.KernelIdeal.Att

open Idealize.ShloMosaic Idealize.ShloMosaic.TcCoe Idealize.ShloMosaic.ValueIdx Idealize.SL.Sem
open Idealize.ShloMosaic.Pipeline (Dat)
open Cert.KernelIdeal Cert.KernelIdeal.Gen
open Cert.Join (qScale IsBlk IsBlkC acc_eq)
open Cert.ReferenceIdeal.Att (gX gY gX_at gY_at lane v52_at)

variable (m : (ℓ : Loc nD τ sig) → Buf (Elt Ideal) ℓ)

/-- Where each window's block sits at a grid point. -/
theorem idx : ∀ t : Fin (cfg0 (F := Ideal)).N,
    win0_0.index t = ![(grid0.coords t 0).val, 0, (grid0.coords t 1).val] ∧ win0_1.index t = ![(grid0.coords t 0).val, 0, (grid0.coords t 1).val]
    ∧ win0_2.index t = ![(grid0.coords t 0).val, 0, (grid0.coords t 1).val] ∧ win0_3.index t = ![0, 0, (grid0.coords t 1).val]
    ∧ win0_4.index t = ![0, 0, (grid0.coords t 1).val] ∧ win0_5.index t = ![0, (grid0.coords t 1).val]
    ∧ win0_6.index t = ![(grid0.coords t 0).val, 0, (grid0.coords t 1).val] :=
  (by decide +kernel : ∀ t : Fin grid0.N, _)

/-- The grid is eight batches by two groups of heads. -/
theorem coords_lt : ∀ t : Fin (cfg0 (F := Ideal)).N, (grid0.coords t 0).val < 8 ∧ (grid0.coords t 1).val < 2 :=
  (by decide +kernel : ∀ t : Fin grid0.N, _)

/-- The six arguments on a device: queries, keys, values, the meta tokens' keys and values, and the gains. -/
abbrev a0 (c : Dev nD) : S8x4096x1024.Idx → EReal := m ((c : Thread nD τ).loc main_arg0)
abbrev a1 (c : Dev nD) : S8x4096x1024.Idx → EReal := m ((c : Thread nD τ).loc main_arg1)
abbrev a2 (c : Dev nD) : S8x4096x1024.Idx → EReal := m ((c : Thread nD τ).loc main_arg2)
abbrev a3 (c : Dev nD) : S1x128x1024.Idx → EReal := m ((c : Thread nD τ).loc main_arg3)
abbrev a4 (c : Dev nD) : S1x128x1024.Idx → EReal := m ((c : Thread nD τ).loc main_arg4)
abbrev a5 (c : Dev nD) : S1x1024.Idx → EReal := m ((c : Thread nD τ).loc main_arg5)

/-- The queries as the kernel reads them. -/
abbrev w0 (c : Dev nD) : S8x4096x1024.Idx → EReal := V m c main_v4

/-- The queries the kernel reads are the argument's, each times the host's factor. -/
theorem V_queries (c : Dev nD) (i : S8x4096x1024.Idx) : w0 m c i = a0 m c i * qScale := by
  have e : w0 m c = truncf (F := Ideal) .bf16 (mulf (a0 m c : FVec Ideal S8x4096x1024 .f32)
      (broadcastInDim S8x4096x1024 ![] bcast_S_S8x4096x1024
        (Host.divf (constant (F := Ideal) S_ .f32 0x3DB504F3#32) (Host.log (constant (F := Ideal) S_ .f32 0x40000000#32))))) bitsLt_bf16_f32 := by
    unfold w0 V
    simp only [hostOps0]
    after_results_simp <;> rfl
  rw [e]
  rfl

/-! ## The blocks of a grid point -/

theorem gB_q (c : Dev nD) (t : Fin (cfg0 (F := Ideal)).N) : IsBlk (grid0.coords t 0).val (grid0.coords t 1).val qScale (a0 m c) (iblk m c 0 t) := by
  intro s e hs he
  obtain ⟨hb, hg⟩ := coords_lt t
  unfold gB gX
  rw [← V_queries]
  blk_ext! [iblk, idx t]

theorem gB_k (c : Dev nD) (t : Fin (cfg0 (F := Ideal)).N) : IsBlk (grid0.coords t 0).val (grid0.coords t 1).val 1 (a1 m c) (iblk m c 1 t) := by
  intro s e hs he
  obtain ⟨hb, hg⟩ := coords_lt t
  unfold gB gX a1
  rw [mul_one, ← V_keep m c main_arg1 (by decide)]
  blk_ext! [iblk, idx t]

theorem gB_v (c : Dev nD) (t : Fin (cfg0 (F := Ideal)).N) : IsBlk (grid0.coords t 0).val (grid0.coords t 1).val 1 (a2 m c) (iblk m c 2 t) := by
  intro s e hs he
  obtain ⟨hb, hg⟩ := coords_lt t
  unfold gB gX a2
  rw [mul_one, ← V_keep m c main_arg2 (by decide)]
  blk_ext! [iblk, idx t]

theorem gC_k (c : Dev nD) (t : Fin (cfg0 (F := Ideal)).N) : IsBlkC (grid0.coords t 1).val (a3 m c) (iblk m c 3 t) := by
  intro s e hs he
  obtain ⟨hb, hg⟩ := coords_lt t
  unfold gC gY a3
  rw [← V_keep m c main_arg3 (by decide)]
  blk_ext! [iblk, idx t]

theorem gC_v (c : Dev nD) (t : Fin (cfg0 (F := Ideal)).N) : IsBlkC (grid0.coords t 1).val (a4 m c) (iblk m c 4 t) := by
  intro s e hs he
  obtain ⟨hb, hg⟩ := coords_lt t
  unfold gC gY a4
  rw [← V_keep m c main_arg4 (by decide)]
  blk_ext! [iblk, idx t]

/-- A head's gains in a block of them. -/
theorem gain_at (g : S1x512.Idx → EReal) (h : Fin 4) (d : Fin 128) (e : Fin 512) (he : e.val = 128 * h.val + d.val) :
    gain (F := Ideal) g h (ValueIdx.ix2 0 d) = g (ValueIdx.ix2 0 e) := by
  match h with
  | 0 => unfold gain gain0; exact extractStridedSlice_apply ![0, 0] g _ (ValueIdx.ix2 0 d) (ValueIdx.ix2 0 e) (fun a => match a with | ⟨0, _⟩ => rfl | ⟨1, _⟩ => by simp [ValueIdx.ix2, he])
  | 1 => unfold gain gain1; exact extractStridedSlice_apply ![0, 128] g _ (ValueIdx.ix2 0 d) (ValueIdx.ix2 0 e) (fun a => match a with | ⟨0, _⟩ => rfl | ⟨1, _⟩ => by simp [ValueIdx.ix2, he])
  | 2 => unfold gain gain2; exact extractStridedSlice_apply ![0, 256] g _ (ValueIdx.ix2 0 d) (ValueIdx.ix2 0 e) (fun a => match a with | ⟨0, _⟩ => rfl | ⟨1, _⟩ => by simp [ValueIdx.ix2, he])
  | 3 => unfold gain gain3; exact extractStridedSlice_apply ![0, 384] g _ (ValueIdx.ix2 0 d) (ValueIdx.ix2 0 e) (fun a => match a with | ⟨0, _⟩ => rfl | ⟨1, _⟩ => by simp [ValueIdx.ix2, he])

theorem gain_blk (c : Dev nD) (t : Fin (cfg0 (F := Ideal)).N) (h : Fin 4) (d : Fin 128) (H : Fin 8) (hH : H.val = 4 * (grid0.coords t 1).val + h.val) :
    gain (F := Ideal) (iblk m c 5 t) h (ValueIdx.ix2 0 d) = a5 m c (ValueIdx.ix2 0 (lane H d)) := by
  obtain ⟨hb, hg⟩ := coords_lt t
  have hd := d.isLt
  have hh := h.isLt
  refine (gain_at _ h d ⟨128 * h.val + d.val, by omega⟩ rfl).trans ?_
  unfold a5
  rw [← V_keep m c main_arg5 (by decide)]
  unfold lane
  blk_ext! [iblk, idx t]

/-! ## The result -/

/-- The reference's result on the kernel's arguments. -/
def refOut (c : Dev nD) : S8x4096x1024.Idx → EReal :=
  Cert.ReferenceIdeal.Read.val_main_v52 (F := Ideal) (a0 m c) (a1 m c) (a2 m c) (a3 m c) (a4 m c) (a5 m c)

/-- A grid point's block of the result, entry by entry, is the reference's result at its batch and its group of heads. -/
theorem out_at (c : Dev nD) (t : Fin (cfg0 (F := Ideal)).N) (y : S1x4096x512.Idx) (b : Fin 8) (s : Fin 4096) (H : Fin 8) (d : Fin 128) (hs : s.val = (y 1).val)
    (hb : b.val = (grid0.coords t 0).val) (hH : H.val = 4 * (grid0.coords t 1).val + (y 2).val / 128) (hd : d.val = (y 2).val % 128) :
    ptOut (F := Ideal) (iblk m c 0 t) (iblk m c 1 t) (iblk m c 2 t) (iblk m c 3 t) (iblk m c 4 t) (iblk m c 5 t) y
      = refOut m c (ValueIdx.ix3 b s (lane H d)) := by
  have h1 : (y 1).val < 4096 := (y 1).isLt
  have h2 : (y 2).val < 512 := (y 2).isLt
  have ed : d = ⟨(y 2).val % 128, by omega⟩ := Fin.ext hd
  unfold ptOut asmO
  refine (blockOut_apply _ _ _ _ _ _ _ ⟨(y 2).val / 128, by omega⟩ ⟨(y 1).val % 256, by omega⟩ ⟨(y 2).val % 128, by omega⟩).trans ?_
  unfold refOut
  rw [← ed]
  refine Eq.trans ?_ (v52_at _ _ _ _ _ _ b H s d).symm
  have et : 256 * ((y 1).val / 256) + (y 1).val % 256 = (y 1).val := by omega
  have eg := gain_blk m c t ⟨(y 2).val / 128, by omega⟩ d H hH
  rw [eg]
  refine congrArg (fun f => normed f _ d) (funext fun k => ?_)
  have ea := acc_eq (a0 m c) (a1 m c) (a2 m c) (a3 m c) (a4 m c) _ _ _ _ _ _ _ (gB_q m c t) (gB_k m c t) (gC_k m c t) (gB_v m c t) (gC_v m c t)
    ⟨(y 2).val / 128, by omega⟩ (y 1).val h1 k
  dsimp only at ea ⊢
  rw [show 16 + 256 * ((y 1).val / 256) + (y 1).val % 256 = 16 + (y 1).val from by omega, et, hb, hH, hs]
  exact ea

/-- The blocks of the result cover it. -/
theorem covers6 : (Pipeline.Cfg.win (cfg0 (F := Ideal)) 6).Covers := by decide +kernel

/-- The entry of the result array at which a block's entry sits. -/
theorem emb6 (t : Fin (cfg0 (F := Ideal)).N) (y : S1x4096x512.Idx) (b : Fin 8) (s : Fin 4096) (H : Fin 8) (d : Fin 128) (hs : s.val = (y 1).val)
    (hb : b.val = (grid0.coords t 0).val) (hH : H.val = 4 * (grid0.coords t 1).val + (y 2).val / 128) (hd : d.val = (y 2).val % 128)
    (G : S8x4096x1024.Idx → EReal) : G (ValueIdx.ix3 b s (lane H d)) = G ((win0_6.blk t).view.emb y) := by
  unfold lane
  blk_ext! [idx t]

/-- What a grid point leaves in its block of the result is the reference's result there. -/
theorem point (c : Dev nD) (t : Fin (cfg0 (F := Ideal)).N) (y : S1x4096x512.Idx) :
    ptOut (F := Ideal) (iblk m c 0 t) (iblk m c 1 t) (iblk m c 2 t) (iblk m c 3 t) (iblk m c 4 t) (iblk m c 5 t) y
      = refOut m c ((win0_6.blk t).view.emb y) := by
  obtain ⟨hb, hg⟩ := coords_lt t
  have h1 : (y 1).val < 4096 := (y 1).isLt
  have h2 : (y 2).val < 512 := (y 2).isLt
  exact (out_at m c t y ⟨(grid0.coords t 0).val, by omega⟩ ⟨(y 1).val, h1⟩ ⟨4 * (grid0.coords t 1).val + (y 2).val / 128, by omega⟩
    ⟨(y 2).val % 128, by omega⟩ rfl rfl rfl rfl).trans (emb6 t y _ _ _ _ rfl rfl rfl rfl _)

attribute [local irreducible] ptOut refOut iblk V Pipeline.Dat.arrAt

/-- The result array, once every grid point has run, is whatever array has every point's block at its place. -/
theorem arr_of_points (c : Dev nD) (G : Buf (Elt Ideal) ((c : Thread nD τ).loc main_v5))
    (h : ∀ (t : Fin (cfg0 (F := Ideal)).N) (y : S1x4096x512.Idx), (dats m 0 c).after 6 t y = G ((win0_6.blk t).view.emb y)) :
    (dats m 0 c).arrAt 6 (cfg0 (F := Ideal)).N = G := by
  refine (dats m 0 c).arrAt_eq_of_covers 6 G covers6 (fun t hf y => ?_) (by exact Memref.isWhole_whole _)
  refine Eq.trans (cast_eq _ _) ?_
  refine Eq.trans (h t (((cfg0 (F := Ideal)).win 6).xinj ((cfg0 (F := Ideal)).grid.coords t) y)) ?_
  rfl

/-- The result array, once every grid point has run, is the reference's. -/
theorem final (c : Dev nD) : (dats m 0 c).arrAt 6 (cfg0 (F := Ideal)).N = (refOut m c : Buf (Elt Ideal) ((c : Thread nD τ).loc main_v5)) :=
  arr_of_points m c _ fun t y => (congrFun (after0_6 m c t) y).trans (point m c t y)

end Cert.KernelIdeal.Att

namespace Cert.Proof

open Idealize.ShloMosaic Idealize.ShloMosaic.TcCoe Idealize.SL.Sem

/-- At the extended reals the kernel's result and the reference's are the same, on every device and from any memory whose
    arguments agree. -/
theorem algebraic : Cert.algebraic_KernelIdeal_ReferenceIdeal := by
  intro m g m' g' _ hagree
  refine ⟨fun c => (Cert.KernelIdeal.Att.dats m 0 c).arrAt 6 (Cert.KernelIdeal.cfg0 (F := Ideal)).N, ?_, ?_⟩
  · exact (θ_run Cert.KernelIdeal.defs _ _).mono
      (fun r h c => Cert.KernelIdeal.Att.run_post m r h.1 c) (Cert.KernelIdeal.Att.run_main (F := Ideal) m g)
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4, e5⟩ := hagree c
    refine Eq.trans ?_ (Cert.KernelIdeal.Att.final m c).symm
    rw [Cert.ReferenceIdeal.Read.val_main_v52_eq, e0, e1, e2, e3, e4, e5]
    rfl

end Cert.Proof

end
-- ==== Proof.Val.Plain.lean ====
/-
  A product of two matrices on a zero accumulator, read at an entry on the extended reals: the sum over the contracted
  coordinate. Stated for any extents, used by the output projection and the MLP.
-/
module

public import Idealize.ShloMosaic.Lib.MatmulPlain

@[expose] public section

noncomputable section

namespace Cert.Val

open Idealize.ShloMosaic Idealize.ShloMosaic.ValueIdx

/-- Row `r` of the one matrix against column `c` of the other. -/
theorem mm_plain {M K N : ℕ} {φ₁ φ₂ : FTy} (x : FVec Ideal ⟨2, ![M, K]⟩ φ₁) (y : FVec Ideal ⟨2, ![K, N]⟩ φ₂) (r : Fin M) (c : Fin N) :
    (matmul (DotDims.plain M K N) none x y (constant ⟨2, ![M, N]⟩ .f32 0x00000000#32) : FVec Ideal ⟨2, ![M, N]⟩ .f32) (ix2 r c)
      = ∑ k : Fin K, x (ix2 r k) * y (ix2 k c) := by
  refine (Ideal.matmul_plain_apply none x y _ r c).trans ?_
  rw [show (constant ⟨2, ![M, N]⟩ .f32 0x00000000#32 : FVec Ideal ⟨2, ![M, N]⟩ .f32) (ix2 r c) = 0 from Ideal.ofBits_zero_f32]
  exact zero_add _

end Cert.Val

end
-- ==== Proof.Val.MlpOps.lean ====
/-
  The arithmetic of the MLP's grid points, read at an entry on the extended reals: a row normalised and scaled, the hidden
  unit it gives with a column of the first weight (the square of what is positive), and what a block of hidden units adds
  to the result.
-/
module

public import proofs.«01_k».proof.Proof.Val.Plain
public import proofs.«01_k».proof.Proof.Gen.MlpIdeal.Skeleton
public import Idealize.ShloMosaic.Lib.Pipeline.Value
public import Idealize.ShloMosaic.Lib.ValueIdx
public import Idealize.ShloMosaic.Lib.ValueLayout
public import Idealize.ShloMosaic.Lib.ValueLayoutCasts
public import Idealize.ShloMosaic.PureOps.Ideal.Laws

@[expose] public section

noncomputable section

namespace Cert.MlpIdeal.RefValue

open Idealize.ShloMosaic Idealize.ShloMosaic.TcCoe Idealize.ShloMosaic.ValueIdx
open Cert.MlpIdeal Cert.MlpIdeal.Gen
open Cert.Val

/-- A row divided by the root of its mean square, and scaled. -/
def nrm (x g : Fin 2048 → EReal) (k : Fin 2048) : EReal :=
  x k * Ideal.rsqrt (Ideal.div (∑ k' : Fin 2048, x k' * x k') (Ideal.ofBits .f32 0x45000000#32) + Ideal.ofBits .f32 0x358637BD#32) * g k

/-- The square of what is positive. -/
def sq (z : EReal) : EReal := max z (Ideal.ofBits .f32 0x00000000#32) * max z (Ideal.ofBits .f32 0x00000000#32)

/-- A hidden unit: the row against a column of the first weight. -/
def hid (y w : Fin 2048 → EReal) : EReal := sq (∑ k : Fin 2048, y k * w k)

theorem norm_at (x : Vec Ideal S256x2048 .f32) (g : Vec Ideal S1x2048 .f32) (r : Fin 256) (k : Fin 2048) :
    (k0_pay3 (F := Ideal) x g (ix2 r k) : EReal) = nrm (fun k => x (ix2 r k)) (fun k => g (ix2 0 k)) k := by
  unfold k0_pay3
  dsimp only
  rw [truncf_apply, mulf_apply, mulf_apply]
  unfold nrm
  congr 1
  · congr 1
    refine (broadcastTo_apply _ _ (ix2 r k) (ix2 r (0 : Fin 1)) fun a => ?_).trans ?_
    · match a with
      | ⟨0, _⟩ => rfl
      | ⟨1, _⟩ => rfl
    · show Ideal.rsqrt (Ideal.div (shapeCast S256x1 _ _ (ix2 r (0 : Fin 1))) _ + _) = _
      rw [shapeCast_a_a1_apply]
      refine congrArg (fun s => Ideal.rsqrt (Ideal.div s (Ideal.ofBits .f32 0x45000000#32) + Ideal.ofBits .f32 0x358637BD#32)) ?_
      refine (Ideal.multiReduction_add_single (φ := .f32) _ _ reduces_S256x2048_S256 _ _ (ix1 r)).trans ?_
      refine Finset.sum_congr rfl fun k _ => ?_
      have e : reduces_S256x2048_S256.lift (ix1 r) k = ix2 r k := funext fun a => by
        match a with
        | ⟨0, _⟩ => rfl
        | ⟨1, _⟩ => rfl
      rw [e]
      rfl
  · exact broadcastTo_1b_ab_apply _ _ _ _

/-- The first point of a block of rows: a slab of its rows. -/
theorem slab_at (x : Vec Ideal S256x2048 .f32) (g : Vec Ideal S1x2048 .f32) (u : Vec Ideal S2048x1024 .bf16) (w : Vec Ideal S1024x2048 .bf16)
    (r : Fin 256) (n : Fin 2048) :
    (k0_pay5 (F := Ideal) x g u w (ix2 r n) : EReal)
      = (x (ix2 r n) : EReal) + ∑ j : Fin 1024, hid (nrm (fun k => x (ix2 r k)) (fun k => g (ix2 0 k))) (fun k => u (ix2 k j)) * (w (ix2 j n) : EReal) := by
  unfold k0_pay5
  rw [addf_apply]
  refine congrArg (fun s : EReal => (x (ix2 r n) : EReal) + s) ?_
  refine (mm_plain (M := 256) (K := 1024) (N := 2048) (φ₁ := .bf16) (φ₂ := .bf16) _ w r n).trans ?_
  refine Finset.sum_congr rfl fun j _ => congrArg (fun s : EReal => s * (w (ix2 j n) : EReal)) ?_
  unfold hid
  refine congrArg sq ?_
  refine (mm_plain (M := 256) (K := 2048) (N := 1024) (φ₁ := .bf16) (φ₂ := .bf16) _ u r j).trans ?_
  exact Finset.sum_congr rfl fun k _ => congrArg (fun s : EReal => s * (u (ix2 k j) : EReal)) (norm_at x g r k)

/-- A later point: what it adds to the block. -/
theorem step_at (o : Vec Ideal S1024x2048 .f32) (y : Vec Ideal S1024x2048 .bf16) (u : Vec Ideal S2048x1024 .bf16) (w : Vec Ideal S1024x2048 .bf16)
    (r : Fin 1024) (n : Fin 2048) :
    (k0_pay2 (F := Ideal) o y u w (ix2 r n) : EReal)
      = (o (ix2 r n) : EReal) + ∑ j : Fin 1024, hid (fun k => y (ix2 r k)) (fun k => u (ix2 k j)) * (w (ix2 j n) : EReal) := by
  unfold k0_pay2
  rw [addf_apply, shapeCast_self]
  refine congrArg (fun s : EReal => (o (ix2 r n) : EReal) + s) ?_
  refine (mm_plain (M := 1024) (K := 1024) (N := 2048) (φ₁ := .bf16) (φ₂ := .bf16) _ w r n).trans ?_
  refine Finset.sum_congr rfl fun j _ => congrArg (fun s : EReal => s * (w (ix2 j n) : EReal)) ?_
  unfold hid
  refine congrArg sq ?_
  exact mm_plain (M := 1024) (K := 2048) (N := 1024) (φ₁ := .bf16) (φ₂ := .bf16) y u r j

end Cert.MlpIdeal.RefValue

end
-- ==== Proof.Val.Mlp.lean ====
/-
  The MLP: what the kernel leaves in its result, at the extended reals, is the reference's value at every entry. The grid
  is 32 blocks of rows times 8 blocks of hidden units. The first of the eight points of a block of rows normalises its
  rows and keeps them; it and the seven after it each add what their block of hidden units gives. After the eighth the
  sum is over all the hidden units, which is what the reference computes.
-/
module

public import proofs.«01_k».proof.Defs
public import proofs.«01_k».proof.Proof.Val.MlpOps
public import proofs.«01_k».proof.Proof.Gen.MlpIdeal.Value
public import proofs.«01_k».proof.Proof.Gen.MlpReferenceIdeal.Read
public import Idealize.ShloMosaic.Lib.Pipeline.ValueKit
public meta import Idealize.ShloMosaic.Lib.Pipeline.ValueKit
public import Idealize.ShloMosaic.Lib.Claim

@[expose] public section

noncomputable section

open Idealize.ShloMosaic Idealize.ShloMosaic.TcCoe Idealize.SL.Sem
open Idealize.ShloMosaic.Pipeline (Dat)

namespace Cert.MlpIdeal.RefValue

open Cert.MlpIdeal Cert.MlpIdeal.Gen Cert.MlpIdeal.Value
open Cert.Val

variable (m : (ℓ : Loc nD τ sig) → Buf (Elt Ideal) ℓ)

/-- Where each window's block sits at a grid point. -/
theorem idx : ∀ t : Fin cfg0.N,
    win0_0.index t = ![t.val / 8, 0] ∧ win0_1.index t = ![0, 0] ∧ win0_2.index t = ![0, t.val % 8] ∧ win0_3.index t = ![t.val % 8, 0] ∧ win0_4.index t = ![t.val / 8, 0] :=
  (by decide +kernel : ∀ t : Fin grid0.N, _)

theorem lt256 (t : Fin cfg0.N) : t.val < 256 := lt_of_lt_of_eq t.isLt (by decide +kernel)

/-- The four arguments on a device: the residual stream, the gains and the two weights. -/
abbrev a0 (c : Dev nD) : S32768x2048.Idx → EReal := m ((c : Thread nD τ).loc main_arg0)
abbrev a1 (c : Dev nD) : S1x2048.Idx → EReal := m ((c : Thread nD τ).loc main_arg1)
abbrev a2 (c : Dev nD) : S2048x8192.Idx → EReal := m ((c : Thread nD τ).loc main_arg2)
abbrev a3 (c : Dev nD) : S8192x2048.Idx → EReal := m ((c : Thread nD τ).loc main_arg3)

/-- A row of a grid point's block among all the rows, and a hidden unit of its block among all the hidden units. -/
abbrev row (t : Fin cfg0.N) (r : Fin 1024) : Fin 32768 := ⟨t.val / 8 * 1024 + r.val, by have := lt256 t; omega⟩
abbrev unit (t : Fin cfg0.N) (j : Fin 1024) : Fin 8192 := ⟨t.val % 8 * 1024 + j.val, by omega⟩

theorem blk0 (c : Dev nD) (t : Fin cfg0.N) (r : Fin 1024) (n : Fin 2048) :
    (iblk m c 0 t (ValueIdx.ix2 r n) : EReal) = a0 m c (ValueIdx.ix2 (row t r) n) := by
  blk_ext! [iblk, V, idx t]

theorem blk1 (c : Dev nD) (t : Fin cfg0.N) (k : Fin 2048) :
    (iblk m c 1 t (ValueIdx.ix2 0 k) : EReal) = a1 m c (ValueIdx.ix2 0 k) := by
  blk_ext! [iblk, V, idx t]

theorem blk2 (c : Dev nD) (t : Fin cfg0.N) (k : Fin 2048) (j : Fin 1024) :
    (iblk m c 2 t (ValueIdx.ix2 k j) : EReal) = a2 m c (ValueIdx.ix2 k (unit t j)) := by
  blk_ext! [iblk, V, idx t]

theorem blk3 (c : Dev nD) (t : Fin cfg0.N) (j : Fin 1024) (n : Fin 2048) :
    (iblk m c 3 t (ValueIdx.ix2 j n) : EReal) = a3 m c (ValueIdx.ix2 (unit t j) n) := by
  blk_ext! [iblk, V, idx t]

/-- A row of the residual stream, normalised. -/
def hn (c : Dev nD) (R : Fin 32768) : Fin 2048 → EReal :=
  nrm (fun k => a0 m c (ValueIdx.ix2 R k)) (fun k => a1 m c (ValueIdx.ix2 0 k))

/-- What a hidden unit adds to an entry of the result. -/
def gain (c : Dev nD) (R : Fin 32768) (n : Fin 2048) (l : Fin 8192) : EReal :=
  hid (hn m c R) (fun k => a2 m c (ValueIdx.ix2 k l)) * a3 m c (ValueIdx.ix2 l n)

/-- The later points of a block of rows. -/
theorem later1 (c : Dev nD) (t : Fin cfg0.N) (h0 : ¬t.val % 8 = 0) (r : Fin 1024) (n : Fin 2048) (p : Fin cfg0.N) (hp : p.val = t.val - 1)
    (hy : ∀ k, ((outsAt0 m c p.val p.isLt).2 (ValueIdx.ix2 r k) : EReal) = hn m c (row t r) k) :
    ((outsAt0 m c t.val t.isLt).1 (ValueIdx.ix2 r n) : EReal)
      = ((outsAt0 m c p.val p.isLt).1 (ValueIdx.ix2 r n) : EReal) + ∑ j : Fin 1024, gain m c (row t r) n (unit t j) := by
  obtain ⟨p, hpl⟩ := p
  obtain rfl : p = t.val - 1 := hp
  rw [outsAt0_B m c t h0 (by omega)]
  frame_out
  refine (step_at _ _ _ _ r n).trans ?_
  refine congrArg (fun s : EReal => _ + s) (Finset.sum_congr rfl fun j _ => ?_)
  unfold gain
  rw [blk3]
  refine congrArg (fun s : EReal => s * _) (congrArg₂ hid (funext fun k => (congrFun (Memref.IsWhole.read_unread (Memref.isWhole_whole cc0_scratch0) _) _).trans (hy k)) (funext fun k => blk2 m c t k j))

theorem later2 (c : Dev nD) (t : Fin cfg0.N) (h0 : ¬t.val % 8 = 0) (p : Fin cfg0.N) (hp : p.val = t.val - 1) :
    (outsAt0 m c t.val t.isLt).2 = (outsAt0 m c p.val p.isLt).2 := by
  obtain ⟨p, hpl⟩ := p
  obtain rfl : p = t.val - 1 := hp
  rw [outsAt0_B m c t h0 (by omega)]
  rfl

/-- A slab of the rows of a grid point's block. -/
theorem slab_blk (c : Dev nD) (t : Fin cfg0.N) (o : ℕ) (inb : ∀ a, ![o, 0] a + ![256, 2048] a ≤ S1024x2048.size a) (q : Fin 256) (r : Fin 1024) (hr : r.val = o + q.val)
    (k : Fin 2048) : (View.ld (iblk m c 0 t) (Rect.unit (s := S1024x2048) ![o, 0] ![256, 2048] inb) (ValueIdx.ix2 q k : S256x2048.Idx) : EReal) = a0 m c (ValueIdx.ix2 (row t r) k) := by
  rw [← blk0]
  refine congrArg (iblk m c 0 t) (funext fun a => Fin.ext ?_)
  match a with
  | ⟨0, _⟩ => exact (congrArg (o + ·) (Nat.one_mul _)).trans hr.symm
  | ⟨1, _⟩ => exact (Nat.zero_add _).trans (Nat.one_mul _)

theorem slab_row (c : Dev nD) (t : Fin cfg0.N) (o : ℕ) (inb : ∀ a, ![o, 0] a + ![256, 2048] a ≤ S1024x2048.size a) (q : Fin 256) (r : Fin 1024) (hr : r.val = o + q.val) :
    nrm (fun k => (View.ld (iblk m c 0 t) (Rect.unit (s := S1024x2048) ![o, 0] ![256, 2048] inb) (ValueIdx.ix2 q k : S256x2048.Idx) : EReal)) (fun k => (iblk m c 1 t (ValueIdx.ix2 0 k) : EReal))
      = hn m c (row t r) := by
  unfold hn
  exact congrArg₂ nrm (funext fun k => slab_blk m c t o inb q r hr k) (funext fun k => blk1 m c t k)

theorem ix_eta (x : S256x2048.Idx) : x = ValueIdx.ix2 (x 0) (x 1) := funext fun a => by
  match a with
  | ⟨0, _⟩ => rfl
  | ⟨1, _⟩ => rfl

theorem first_out (c : Dev nD) (t : Fin cfg0.N) (o : ℕ) (inb : ∀ a, ![o, 0] a + ![256, 2048] a ≤ S1024x2048.size a) (x : S256x2048.Idx) (r : Fin 1024) (n : Fin 2048)
    (hr : r.val = o + (x 0).val) (hn' : n.val = (x 1).val) :
    (k0_pay5 (F := Ideal) (View.ld (iblk m c 0 t) (Rect.unit (s := S1024x2048) ![o, 0] ![256, 2048] inb)) (iblk m c 1 t) (iblk m c 2 t) (iblk m c 3 t) x : EReal)
      = a0 m c (ValueIdx.ix2 (row t r) n) + ∑ j : Fin 1024, gain m c (row t r) n (unit t j) := by
  obtain rfl : n = x 1 := Fin.ext hn'
  rw [ix_eta x]
  refine (slab_at _ _ _ _ (x 0) (x 1)).trans ?_
  refine congrArg₂ (fun a b : EReal => a + b) (slab_blk m c t o inb (x 0) r hr (x 1)) (Finset.sum_congr rfl fun j _ => ?_)
  unfold gain
  refine congrArg₂ (fun a b : EReal => a * b) (congrArg₂ hid (slab_row m c t o inb (x 0) r hr) (funext fun k => blk2 m c t k j)) (blk3 m c t j (x 1))

theorem first_row (c : Dev nD) (t : Fin cfg0.N) (o : ℕ) (inb : ∀ a, ![o, 0] a + ![256, 2048] a ≤ S1024x2048.size a) (x : S256x2048.Idx) (r : Fin 1024) (k : Fin 2048)
    (hr : r.val = o + (x 0).val) (hk : k.val = (x 1).val) :
    (k0_pay4 (F := Ideal) (View.ld (iblk m c 0 t) (Rect.unit (s := S1024x2048) ![o, 0] ![256, 2048] inb)) (iblk m c 1 t) x : EReal) = hn m c (row t r) k := by
  obtain rfl : k = x 1 := Fin.ext hk
  rw [ix_eta x]
  unfold k0_pay4
  rw [shapeCast_self]
  exact (norm_at _ _ (x 0) (x 1)).trans (congrFun (slab_row m c t o inb (x 0) r hr) (x 1))

/-- The first point of a block of rows: the residual's entry and what the first block of hidden units adds to it. -/
theorem first1 (c : Dev nD) (t : Fin cfg0.N) (h0 : t.val % 8 = 0) (r : Fin 1024) (n : Fin 2048) :
    ((outsAt0 m c t.val t.isLt).1 (ValueIdx.ix2 r n) : EReal) = a0 m c (ValueIdx.ix2 (row t r) n) + ∑ j : Fin 1024, gain m c (row t r) n (unit t j) := by
  rw [outsAt0_A m c t h0 (by omega)]
  frame_out
  canon_tiles x h
  · exact first_out m c t 768 _ x r n h0 h1
  · exact first_out m c t 512 _ x r n h0 h1
  · exact first_out m c t 256 _ x r n h0 h1
  · exact first_out m c t 0 _ x r n (h0.trans (Nat.zero_add _).symm) h1

/-- … and the normalised rows it keeps for the later points. -/
theorem first2 (c : Dev nD) (t : Fin cfg0.N) (h0 : t.val % 8 = 0) (r : Fin 1024) (k : Fin 2048) :
    ((outsAt0 m c t.val t.isLt).2 (ValueIdx.ix2 r k) : EReal) = hn m c (row t r) k := by
  rw [outsAt0_A m c t h0 (by omega)]
  frame_out
  canon_tiles x h
  · exact first_row m c t 768 _ x r k h0 h1
  · exact first_row m c t 512 _ x r k h0 h1
  · exact first_row m c t 256 _ x r k h0 h1
  · exact first_row m c t 0 _ x r k (h0.trans (Nat.zero_add _).symm) h1

/-- What the hidden units add, numbered by the naturals. -/
def gainN (c : Dev nD) (R : Fin 32768) (n : Fin 2048) (l : ℕ) : EReal := if h : l < 8192 then gain m c R n ⟨l, h⟩ else 0

theorem block_sum (c : Dev nD) (R : Fin 32768) (n : Fin 2048) (t : Fin cfg0.N) :
    (∑ j : Fin 1024, gain m c R n (unit t j)) = ∑ j ∈ Finset.range 1024, gainN m c R n (t.val % 8 * 1024 + j) := by
  rw [← Fin.sum_univ_eq_sum_range (fun j => gainN m c R n (t.val % 8 * 1024 + j))]
  refine Finset.sum_congr rfl fun j _ => ?_
  unfold gainN
  rw [dif_pos (by omega)]

/-- What is held after a grid point: the normalised rows, and the sum over the blocks of hidden units so far. -/
theorem inv (c : Dev nD) (p : ℕ) : ∀ (h : p < cfg0.N) (r : Fin 1024),
    (∀ k : Fin 2048, ((outsAt0 m c p h).2 (ValueIdx.ix2 r k) : EReal) = hn m c (row ⟨p, h⟩ r) k)
    ∧ ∀ n : Fin 2048, ((outsAt0 m c p h).1 (ValueIdx.ix2 r n) : EReal)
      = a0 m c (ValueIdx.ix2 (row ⟨p, h⟩ r) n) + ∑ s ∈ Finset.range (p % 8 + 1), ∑ j ∈ Finset.range 1024, gainN m c (row ⟨p, h⟩ r) n (s * 1024 + j) := by
  have start : ∀ (p : ℕ) (h : p < cfg0.N) (h0 : p % 8 = 0) (r : Fin 1024),
      (∀ k : Fin 2048, ((outsAt0 m c p h).2 (ValueIdx.ix2 r k) : EReal) = hn m c (row ⟨p, h⟩ r) k)
      ∧ ∀ n : Fin 2048, ((outsAt0 m c p h).1 (ValueIdx.ix2 r n) : EReal)
        = a0 m c (ValueIdx.ix2 (row ⟨p, h⟩ r) n) + ∑ s ∈ Finset.range (p % 8 + 1), ∑ j ∈ Finset.range 1024, gainN m c (row ⟨p, h⟩ r) n (s * 1024 + j) := by
    intro p h h0 r
    refine ⟨fun k => first2 m c ⟨p, h⟩ h0 r k, fun n => (first1 m c ⟨p, h⟩ h0 r n).trans ?_⟩
    rw [block_sum, h0, Finset.sum_range_one]
  induction p with
  | zero => exact fun h r => start 0 h rfl r
  | succ p ih =>
    intro h r
    by_cases h0 : (p + 1) % 8 = 0
    · exact start (p + 1) h h0 r
    · have hp : p < cfg0.N := Nat.lt_of_succ_lt h
      obtain ⟨i2, i1⟩ := ih hp r
      have er : row ⟨p, hp⟩ r = row ⟨p + 1, h⟩ r := Fin.ext (by
        show p / 8 * 1024 + r.val = (p + 1) / 8 * 1024 + r.val
        omega)
      rw [er] at i1 i2
      refine ⟨fun k => (congrFun (later2 m c ⟨p + 1, h⟩ h0 ⟨p, hp⟩ rfl) (ValueIdx.ix2 r k)).trans (i2 k), fun n => ?_⟩
      refine (later1 m c ⟨p + 1, h⟩ h0 r n ⟨p, hp⟩ rfl i2).trans ?_
      rw [show (outsAt0 m c (⟨p, hp⟩ : Fin cfg0.N).val (⟨p, hp⟩ : Fin cfg0.N).isLt).1 (ValueIdx.ix2 r n) = _ from i1 n, block_sum]
      rw [show (p + 1) % 8 = p % 8 + 1 by omega, Finset.sum_range_succ _ (p % 8 + 1), add_assoc]

/-- The result of the MLP as an array. -/
def OUT (x : S32768x2048.Idx → EReal) (g : S1x2048.Idx → EReal) (u : S2048x8192.Idx → EReal) (w : S8192x2048.Idx → EReal) : S32768x2048.Idx → EReal :=
  fun i => x i + ∑ l : Fin 8192, hid (nrm (fun k => x (ValueIdx.ix2 (i 0) k)) (fun k => g (ValueIdx.ix2 0 k))) (fun k => u (ValueIdx.ix2 k l)) * w (ValueIdx.ix2 l (i 1))

/-- What the last point of a block of rows leaves. -/
theorem last (c : Dev nD) (t : Fin cfg0.N) (h7 : t.val % 8 = 7) (r : Fin 1024) (n : Fin 2048) :
    ((outsAt0 m c t.val t.isLt).1 (ValueIdx.ix2 r n) : EReal) = OUT (a0 m c) (a1 m c) (a2 m c) (a3 m c) (ValueIdx.ix2 (row t r) n) := by
  refine ((inv m c t.val t.isLt r).2 n).trans ?_
  rw [h7]
  unfold OUT
  refine congrArg (fun s : EReal => a0 m c (ValueIdx.ix2 (row t r) n) + s) ?_
  refine (Finset.sum_range_range_mul_add 8 1024 (gainN m c (row t r) n)).trans ?_
  rw [← Fin.sum_univ_eq_sum_range]
  refine Finset.sum_congr rfl fun l _ => ?_
  unfold gainN
  rw [dif_pos l.isLt]
  rfl

theorem covers4 : (Pipeline.Cfg.win cfg0 4).Covers := by decide +kernel

/-- What the last point of a block of rows leaves sits at the block's place in the result. -/
theorem point (c : Dev nD) (t : Fin cfg0.N) (hf : (cfg0.win 4).flush t = true) (y : S1024x2048.Idx) :
    ((dats m 0 c).after 4 t y : EReal) = OUT (a0 m c) (a1 m c) (a2 m c) (a3 m c) ((win0_4.blk t).view.emb y) := by
  have e : y = ValueIdx.ix2 (y 0) (y 1) := funext fun a => by
    match a with
    | ⟨0, _⟩ => rfl
    | ⟨1, _⟩ => rfl
  have h : ∀ G : S32768x2048.Idx → EReal, G (ValueIdx.ix2 (row t (y 0)) (y 1)) = G ((win0_4.blk t).view.emb y) := by
    intro G
    blk_ext! [idx t]
  refine Eq.trans ?_ (h _)
  rw [after0_4, e]
  exact last m c t ((flush0_4 t).mp hf) (y 0) (y 1)

attribute [local irreducible] OUT iblk outsAt0 Pipeline.Dat.arrAt

theorem arr_of_points (c : Dev nD) (G : Buf (Elt Ideal) ((c : Thread nD τ).loc main_v0))
    (h : ∀ (t : Fin cfg0.N) (hf : (cfg0.win 4).flush t = true) (y : S1024x2048.Idx), (dats m 0 c).after 4 t y = G ((win0_4.blk t).view.emb y)) :
    (dats m 0 c).arrAt 4 cfg0.N = G := by
  refine (dats m 0 c).arrAt_eq_of_covers 4 G covers4 (fun t hf y => ?_) (by exact Memref.isWhole_whole _)
  refine Eq.trans (cast_eq _ _) ?_
  refine Eq.trans (h t hf ((cfg0.win 4).xinj (cfg0.grid.coords t) y)) ?_
  rfl

/-- The result array, once every grid point has run. -/
theorem final (c : Dev nD) : G4 m c = (OUT (a0 m c) (a1 m c) (a2 m c) (a3 m c) : Buf (Elt Ideal) ((c : Thread nD τ).loc main_v0)) :=
  (final4 m c).symm.trans (arr_of_points m c _ fun t hf y => point m c t hf y)

end Cert.MlpIdeal.RefValue

namespace Cert.MlpReferenceIdeal.RefValue

open Cert.MlpReferenceIdeal Cert.MlpReferenceIdeal.Gen Cert.MlpReferenceIdeal.Read
open Cert.MlpIdeal.RefValue (nrm sq hid OUT)

/-- The reference's normalised row. -/
theorem norm (x0 : S32768x2048.Idx → EReal) (x1 : S1x2048.Idx → EReal) (R : Fin 32768) (k : Fin 2048) :
    (val_main_v11 (F := Ideal) x0 x1 (ValueIdx.ix2 R k) : EReal) = nrm (fun k => x0 (ValueIdx.ix2 R k)) (fun k => x1 (ValueIdx.ix2 0 k)) k := by
  rw [val_main_v11_apply, val_main_v9_apply, val_main_v8_apply, val_main_v7_apply, val_main_v6_apply, val_main_v5_apply, val_main_v4_apply, val_main_v3_apply,
    val_main_v2_apply, val_main_v1_apply, val_main_v10_apply, val_main_cst_apply, val_main_cst_0_apply, val_main_cst_1_apply]
  unfold nrm
  refine congrArg₂ (fun a b : EReal => a * b) (congrArg (fun s : EReal => x0 (ValueIdx.ix2 R k) * Ideal.rsqrt (Ideal.div s _ + _)) ?_) (congrArg x1 (funext fun a => by
    match a with
    | ⟨0, _⟩ => rfl
    | ⟨1, _⟩ => rfl))
  refine Eq.trans (congrArg (fun z : EReal => z + _) (Ideal.ofBits_zero_f32)) ?_
  rw [zero_add]
  refine Finset.sum_congr rfl fun k' _ => ?_
  refine congrArg (fun i => x0 i * x0 i) (funext fun a => by
    match a with
    | ⟨0, _⟩ => rfl
    | ⟨1, _⟩ => rfl)

/-- The reference's hidden unit. -/
theorem unit_at (x0 : S32768x2048.Idx → EReal) (x1 : S1x2048.Idx → EReal) (x2 : S2048x8192.Idx → EReal) (R : Fin 32768) (l : Fin 8192) :
    (val_main_v15 (F := Ideal) x0 x1 x2 (ValueIdx.ix2 R l) : EReal)
      = hid (nrm (fun k => x0 (ValueIdx.ix2 R k)) (fun k => x1 (ValueIdx.ix2 0 k))) (fun k => x2 (ValueIdx.ix2 k l)) := by
  rw [val_main_v15_apply, val_main_v14_apply, val_main_v13_apply, val_main_call0_v0_apply, val_main_call0_cst_apply]
  unfold hid
  refine congrArg sq (Finset.sum_congr rfl fun k _ => ?_)
  refine congrArg₂ (fun a b : EReal => a * b) ((congrArg (val_main_v11 (F := Ideal) x0 x1) (funext fun a => by
    match a with
    | ⟨0, _⟩ => rfl
    | ⟨1, _⟩ => rfl)).trans (norm x0 x1 R k)) (congrArg x2 (funext fun a => by
    match a with
    | ⟨0, _⟩ => rfl
    | ⟨1, _⟩ => rfl))

/-- The reference's result. -/
theorem value (x0 : S32768x2048.Idx → EReal) (x1 : S1x2048.Idx → EReal) (x2 : S2048x8192.Idx → EReal) (x3 : S8192x2048.Idx → EReal) :
    val_main_v18 (F := Ideal) x0 x1 x2 x3 = OUT x0 x1 x2 x3 := by
  funext i
  rw [val_main_v18_apply, val_main_v17_apply]
  unfold OUT
  refine congrArg (fun s : EReal => x0 i + s) (Finset.sum_congr rfl fun l _ => ?_)
  refine congrArg₂ (fun a b : EReal => a * b) ((congrArg (val_main_v15 (F := Ideal) x0 x1 x2) (funext fun a => by
    match a with
    | ⟨0, _⟩ => rfl
    | ⟨1, _⟩ => rfl)).trans (unit_at x0 x1 x2 (i 0) l)) (congrArg x3 (funext fun a => by
    match a with
    | ⟨0, _⟩ => rfl
    | ⟨1, _⟩ => rfl))

end Cert.MlpReferenceIdeal.RefValue

namespace Cert.Proof

/-- At the extended reals the MLP's result and its reference's are the same. -/
theorem algebraic_mlp : Cert.algebraic_MlpIdeal_MlpReferenceIdeal := by
  intro m g m' g' _ hagree
  refine ⟨fun c => Cert.MlpIdeal.Value.G4 m c, ?_, ?_⟩
  · run_from Cert.MlpIdeal.Value.run m g
  · refine (θ_run Cert.MlpReferenceIdeal.defs _ _).mono (fun r h c => ?_) (Cert.MlpReferenceIdeal.Value.run (F := Ideal) m' g')
    refine ⟨(h c).1.trans ?_, (h c).2⟩
    obtain ⟨e0, e1, e2, e3⟩ := hagree c
    refine Eq.trans ?_ (Cert.MlpIdeal.RefValue.final m c).symm
    rw [Cert.MlpReferenceIdeal.Read.val_main_v18_eq, e0, e1, e2, e3]
    exact Cert.MlpReferenceIdeal.RefValue.value _ _ _ _

end Cert.Proof

end
-- ==== Proof.Val.OutProj.lean ====
/-
  The output projection: what the kernel leaves in its result, at the extended reals, is the reference's value at every
  entry. The kernel adds the products of the two halves of the mixer's output with the two halves of the weight's rows;
  the reference joins the two halves along the columns and multiplies once.
-/
module

public import proofs.«01_k».proof.Defs
public import proofs.«01_k».proof.Proof.Val.Plain
public import proofs.«01_k».proof.Proof.Gen.OutProjIdeal.Value
public import proofs.«01_k».proof.Proof.Gen.OutProjReferenceIdeal.Read
public import Idealize.ShloMosaic.Lib.Pipeline.ValueKit
public meta import Idealize.ShloMosaic.Lib.Pipeline.ValueKit
public import Idealize.ShloMosaic.Lib.Claim
public import Idealize.ShloMosaic.Lib.ValueLayout
public import Idealize.ShloMosaic.Lib.ValueLayoutCasts

@[expose] public section

noncomputable section

open Idealize.ShloMosaic Idealize.ShloMosaic.TcCoe Idealize.SL.Sem
open Idealize.ShloMosaic.Pipeline (Dat)

namespace Cert.OutProjIdeal.RefValue

open Cert.OutProjIdeal Cert.OutProjIdeal.Gen Cert.OutProjIdeal.Value
open Cert.Val

/-- The first half of the rows of the weight, and the second. -/
abbrev lo (k : Fin 1024) : Fin 2048 := ⟨k.val, by omega⟩
abbrev hi (k : Fin 1024) : Fin 2048 := ⟨1024 + k.val, by omega⟩

/-- An entry of the result: the residual's entry plus the row of the two halves against the weight's column. -/
def entry (h : S32768x2048.Idx → EReal) (yc ya : S32768x1024.Idx → EReal) (w : S2048x2048.Idx → EReal) (r : Fin 32768) (n : Fin 2048) : EReal :=
  h (ValueIdx.ix2 r n) + (∑ k : Fin 1024, yc (ValueIdx.ix2 r k) * w (ValueIdx.ix2 (lo k) n)) + ∑ k : Fin 1024, ya (ValueIdx.ix2 r k) * w (ValueIdx.ix2 (hi k) n)

/-- The arithmetic of a grid point, at an entry of its block. -/
theorem pay_at (x0 : Vec Ideal S512x2048 .f32) (x1 : Vec Ideal S512x1024 .bf16) (x2 : Vec Ideal S1024x2048 .bf16) (x5 : Vec Ideal S512x1024 .bf16)
    (x6 : Vec Ideal S1024x2048 .bf16) (r : Fin 512) (n : Fin 2048) :
    k0_pay1 (F := Ideal) x0 x1 x2 x5 x6 (ValueIdx.ix2 r n)
      = (x0 (ValueIdx.ix2 r n) : EReal) + (∑ k : Fin 1024, (x1 (ValueIdx.ix2 r k) : EReal) * x2 (ValueIdx.ix2 k n))
        + ∑ k : Fin 1024, (x5 (ValueIdx.ix2 r k) : EReal) * x6 (ValueIdx.ix2 k n) :=
  congrArg₂ (fun a b : EReal => (x0 (ValueIdx.ix2 r n) : EReal) + a + b)
    (mm_plain (M := 512) (K := 1024) (N := 2048) (φ₁ := .bf16) (φ₂ := .bf16) x1 x2 r n)
    (mm_plain (M := 512) (K := 1024) (N := 2048) (φ₁ := .bf16) (φ₂ := .bf16) x5 x6 r n)

variable (m : (ℓ : Loc nD τ sig) → Buf (Elt Ideal) ℓ)

/-- Where each window's block sits at a grid point. -/
theorem idx : ∀ t : Fin cfg0.N,
    win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

theorem lt64 (t : Fin cfg0.N) : t.val < 64 := lt_of_lt_of_eq t.isLt (by decide +kernel)

/-- The four arguments on a device. -/
abbrev a0 (c : Dev nD) : S32768x2048.Idx → EReal := m ((c : Thread nD τ).loc main_arg0)
abbrev a1 (c : Dev nD) : S32768x1024.Idx → EReal := m ((c : Thread nD τ).loc main_arg1)
abbrev a2 (c : Dev nD) : S32768x1024.Idx → EReal := m ((c : Thread nD τ).loc main_arg2)
abbrev a3 (c : Dev nD) : S2048x2048.Idx → EReal := m ((c : Thread nD τ).loc main_arg3)

/-- A row of a grid point's block, among all the rows. -/
abbrev row (t : Fin cfg0.N) (r : Fin 512) : Fin 32768 := ⟨t.val * 512 + r.val, by have := lt64 t; omega⟩

theorem blk0 (c : Dev nD) (t : Fin cfg0.N) (r : Fin 512) (n : Fin 2048) :
    (iblk m c 0 t (ValueIdx.ix2 r n) : EReal) = a0 m c (ValueIdx.ix2 (row t r) n) := by
  blk_ext! [iblk, V, idx t]

theorem blk1 (c : Dev nD) (t : Fin cfg0.N) (r : Fin 512) (k : Fin 1024) :
    (iblk m c 1 t (ValueIdx.ix2 r k) : EReal) = a1 m c (ValueIdx.ix2 (row t r) k) := by
  blk_ext! [iblk, V, idx t]

theorem blk2 (c : Dev nD) (t : Fin cfg0.N) (r : Fin 512) (k : Fin 1024) :
    (iblk m c 2 t (ValueIdx.ix2 r k) : EReal) = a2 m c (ValueIdx.ix2 (row t r) k) := by
  blk_ext! [iblk, V, idx t]

theorem blk3 (c : Dev nD) (t : Fin cfg0.N) (k n : Fin 2048) :
    (iblk m c 3 t (ValueIdx.ix2 k n) : EReal) = a3 m c (ValueIdx.ix2 k n) := by
  blk_ext! [iblk, V, idx t]

/-- What a grid point leaves in its block of the result. -/
theorem after_at (c : Dev nD) (t : Fin cfg0.N) (r : Fin 512) (n : Fin 2048) :
    ((dats m 0 c).after 4 t (ValueIdx.ix2 r n) : EReal) = entry (a0 m c) (a1 m c) (a2 m c) (a3 m c) (row t r) n := by
  rw [after0_4]
  frame_out
  refine (pay_at _ _ _ _ _ r n).trans ?_
  unfold entry
  rw [blk0]
  refine congrArg₂ (fun a b : EReal => _ + a + b) (Finset.sum_congr rfl fun k _ => ?_) (Finset.sum_congr rfl fun k _ => ?_)
  · rw [blk1, ← blk3 m c t (lo k) n]
    refine congrArg (_ * ·) (congrArg (iblk m c 3 t) (funext fun a => Fin.ext ?_))
    match a with
    | ⟨0, _⟩ => exact (Nat.zero_add _).trans (Nat.one_mul _)
    | ⟨1, _⟩ => exact (Nat.zero_add _).trans (Nat.one_mul _)
  · rw [blk2, ← blk3 m c t (hi k) n]
    refine congrArg (_ * ·) (congrArg (iblk m c 3 t) (funext fun a => Fin.ext ?_))
    match a with
    | ⟨0, _⟩ => exact congrArg (1024 + ·) (Nat.one_mul _)
    | ⟨1, _⟩ => exact (Nat.zero_add _).trans (Nat.one_mul _)

theorem covers4 : (Pipeline.Cfg.win cfg0 4).Covers := by decide +kernel

/-- The result of the projection as an array. -/
def OUT (h : S32768x2048.Idx → EReal) (yc ya : S32768x1024.Idx → EReal) (w : S2048x2048.Idx → EReal) : S32768x2048.Idx → EReal :=
  fun i => entry h yc ya w (i 0) (i 1)

/-- What a grid point leaves in its block sits at the block's place in the result. -/
theorem point (c : Dev nD) (t : Fin cfg0.N) (y : S512x2048.Idx) :
    ((dats m 0 c).after 4 t y : EReal) = OUT (a0 m c) (a1 m c) (a2 m c) (a3 m c) ((win0_4.blk t).view.emb y) := by
  have e : y = ValueIdx.ix2 (y 0) (y 1) := funext fun a => by
    match a with
    | ⟨0, _⟩ => rfl
    | ⟨1, _⟩ => rfl
  have h : ∀ G : S32768x2048.Idx → EReal, G (ValueIdx.ix2 (row t (y 0)) (y 1)) = G ((win0_4.blk t).view.emb y) := by
    intro G
    blk_ext! [idx t]
  refine Eq.trans ?_ (h _)
  rw [e]
  exact after_at m c t (y 0) (y 1)

attribute [local irreducible] OUT iblk Pipeline.Dat.arrAt

theorem arr_of_points (c : Dev nD) (G : Buf (Elt Ideal) ((c : Thread nD τ).loc main_v0))
    (h : ∀ (t : Fin cfg0.N) (y : S512x2048.Idx), (dats m 0 c).after 4 t y = G ((win0_4.blk t).view.emb y)) :
    (dats m 0 c).arrAt 4 cfg0.N = G := by
  refine (dats m 0 c).arrAt_eq_of_covers 4 G covers4 (fun t hf y => ?_) (by exact Memref.isWhole_whole _)
  refine Eq.trans (cast_eq _ _) ?_
  refine Eq.trans (h t ((cfg0.win 4).xinj (cfg0.grid.coords t) y)) ?_
  rfl

/-- The result array, once every grid point has run. -/
theorem final (c : Dev nD) : (dats m 0 c).arrAt 4 cfg0.N = (OUT (a0 m c) (a1 m c) (a2 m c) (a3 m c) : Buf (Elt Ideal) ((c : Thread nD τ).loc main_v0)) :=
  arr_of_points m c _ fun t y => point m c t y

end Cert.OutProjIdeal.RefValue

namespace Cert.OutProjReferenceIdeal.RefValue

open Cert.OutProjReferenceIdeal Cert.OutProjReferenceIdeal.Gen Cert.OutProjReferenceIdeal.Read
open Cert.OutProjIdeal.RefValue (lo hi entry OUT)

/-- A sum over all the rows of the weight, as the sums over its two halves. -/
theorem sum_halves (f : Fin 2048 → EReal) : ∑ k : Fin 2048, f k = (∑ k : Fin 1024, f (lo k)) + ∑ k : Fin 1024, f (hi k) := by
  refine (Fin.sum_univ_add (a := 1024) (b := 1024) f).trans (congrArg₂ (· + ·) ?_ ?_)
  · exact Finset.sum_congr rfl fun k _ => congrArg f (Fin.ext rfl)
  · exact Finset.sum_congr rfl fun k _ => congrArg f (Fin.ext rfl)

/-- The joined columns: the first half is the one array's, the second the other's. -/
theorem join_lo (x y : S32768x1024.Idx → EReal) (r : Fin 32768) (k : Fin 1024) :
    concatenate S32768x2048 1 [⟨S32768x1024, x⟩, ⟨S32768x1024, y⟩] concatenates_S32768x1024_S32768x1024_S32768x2048_d1 (ValueIdx.ix2 r (lo k)) = x (ValueIdx.ix2 r k) :=
  concatenate_pair_apply_left (t := S32768x2048) (s₁ := S32768x1024) (s₂ := S32768x1024) 1 x y concatenates_S32768x1024_S32768x1024_S32768x2048_d1 (ValueIdx.ix2 r (lo k)) rfl
    (ValueIdx.ix2 r k) (fun a => by
    match a with
    | ⟨0, _⟩ => rfl
    | ⟨1, _⟩ => rfl)

theorem join_hi (x y : S32768x1024.Idx → EReal) (r : Fin 32768) (k : Fin 1024) :
    concatenate S32768x2048 1 [⟨S32768x1024, x⟩, ⟨S32768x1024, y⟩] concatenates_S32768x1024_S32768x1024_S32768x2048_d1 (ValueIdx.ix2 r (hi k)) = y (ValueIdx.ix2 r k) :=
  concatenate_pair_apply_right (t := S32768x2048) (s₁ := S32768x1024) (s₂ := S32768x1024) 1 x y concatenates_S32768x1024_S32768x1024_S32768x2048_d1 (ValueIdx.ix2 r (hi k)) rfl rfl
    (ValueIdx.ix2 r k) (fun a ha => by
    match a with
    | ⟨0, _⟩ => rfl
    | ⟨1, _⟩ => exact absurd rfl ha) (by
      show k.val + 1024 = 1024 + k.val
      omega)

/-- The reference's result at an entry. -/
theorem value (x0 : S32768x2048.Idx → EReal) (x1 x2 : S32768x1024.Idx → EReal) (x3 : S2048x2048.Idx → EReal) :
    val_main_v5 (F := Ideal) x0 x1 x2 x3 = OUT x0 x1 x2 x3 := by
  funext i
  have e : i = ValueIdx.ix2 (i 0) (i 1) := funext fun a => by
    match a with
    | ⟨0, _⟩ => rfl
    | ⟨1, _⟩ => rfl
  rw [val_main_v5_apply, val_main_v4_apply, sum_halves]
  unfold OUT entry
  refine Eq.trans ?_ (add_assoc _ _ _).symm
  refine congrArg₂ (fun a b : EReal => a + b) (congrArg x0 e) (congrArg₂ (fun a b : EReal => a + b) (Finset.sum_congr rfl fun k _ => ?_) (Finset.sum_congr rfl fun k _ => ?_))
  · refine congrArg₂ (fun a b : EReal => a * b) ?_ (congrArg x3 (funext fun a => by
      match a with
      | ⟨0, _⟩ => rfl
      | ⟨1, _⟩ => rfl))
    refine Eq.trans (congrArg (val_main_v2 (F := Ideal) x1 x2) (funext fun a => by
      match a with
      | ⟨0, _⟩ => rfl
      | ⟨1, _⟩ => rfl)) (join_lo x1 x2 (i 0) k)
  · refine congrArg₂ (fun a b : EReal => a * b) ?_ (congrArg x3 (funext fun a => by
      match a with
      | ⟨0, _⟩ => rfl
      | ⟨1, _⟩ => rfl))
    refine Eq.trans (congrArg (val_main_v2 (F := Ideal) x1 x2) (funext fun a => by
      match a with
      | ⟨0, _⟩ => rfl
      | ⟨1, _⟩ => rfl)) (join_hi x1 x2 (i 0) k)

end Cert.OutProjReferenceIdeal.RefValue

namespace Cert.Proof

/-- At the extended reals the projection's result and its reference's are the same. -/
theorem algebraic_outProj : Cert.algebraic_OutProjIdeal_OutProjReferenceIdeal := by
  intro m g m' g' _ hagree
  refine ⟨fun c => (Cert.OutProjIdeal.Gen.dats m 0 c).arrAt 4 Cert.OutProjIdeal.cfg0.N, ?_, ?_⟩
  · run_from Cert.OutProjIdeal.Value.run_blocks m g
  · refine (θ_run Cert.OutProjReferenceIdeal.defs _ _).mono (fun r h c => ?_) (Cert.OutProjReferenceIdeal.Value.run (F := Ideal) m' g')
    refine ⟨(h c).1.trans ?_, (h c).2⟩
    obtain ⟨e0, e1, e2, e3⟩ := hagree c
    refine Eq.trans ?_ (Cert.OutProjIdeal.RefValue.final m c).symm
    rw [Cert.OutProjReferenceIdeal.Read.val_main_v5_eq, e0, e1, e2, e3]
    exact Cert.OutProjReferenceIdeal.RefValue.value _ _ _ _

end Cert.Proof

end
-- ==== Proof.lean ====
module
public import proofs.«01_k».proof.Defs
public import proofs.«01_k».proof.Proof.Frames
public import proofs.«01_k».proof.Proof.Val.Final
public import proofs.«01_k».proof.Proof.Val.Mlp
public import proofs.«01_k».proof.Proof.Val.OutProj
public import proofs.«01_k».proof.Proof.Gen.Mlp.Frame
public import proofs.«01_k».proof.Proof.Gen.MlpIdeal.Value
public import proofs.«01_k».proof.Proof.Gen.MlpReferenceIdeal.Read
public import proofs.«01_k».proof.Proof.Gen.OutProj.Frame
public import proofs.«01_k».proof.Proof.Gen.OutProjIdeal.Value
public import proofs.«01_k».proof.Proof.Gen.OutProjReferenceIdeal.Read

/-! # The certificate's claim -/

@[expose] public section

namespace Cert.Proof

open Idealize.ShloMosaic Idealize.SL.Sem

/-- The MLP's reference runs, leaves its arguments as launched and every counter at zero (it has none). -/
theorem frame_mlpReference : Cert.quiescent_MlpReferenceIdeal := by
  intro m ρ _
  exact (θ_run Cert.MlpReferenceIdeal.defs _ _).mono
    (fun r h => ⟨fun c => (h c).2, Idealize.ShloMosaic.sem_eq_zero_of_no_sems (by decide) r.2⟩)
    (Cert.MlpReferenceIdeal.Value.run (F := Ideal) m ρ)

/-- The output projection's reference runs, leaves its arguments as launched and every counter at zero (it has none). -/
theorem frame_outProjReference : Cert.quiescent_OutProjReferenceIdeal := by
  intro m ρ _
  exact (θ_run Cert.OutProjReferenceIdeal.defs _ _).mono
    (fun r h => ⟨fun c => (h c).2, Idealize.ShloMosaic.sem_eq_zero_of_no_sems (by decide) r.2⟩)
    (Cert.OutProjReferenceIdeal.Value.run (F := Ideal) m ρ)

/-- Everything that is claimed, of the attention, the MLP and the output projection: the frames, that only named constants were
    replaced, and that kernel and reference agree at the extended reals. -/
theorem claim : Cert.Claim :=
  ⟨Cert.Kernel.Gen.facts, Cert.KernelIdeal.Gen.facts, Cert.ReferenceIdeal.Gen.facts,
   Cert.Mlp.Gen.facts, Cert.MlpIdeal.Gen.facts, Cert.MlpReferenceIdeal.Gen.facts,
   Cert.OutProj.Gen.facts, Cert.OutProjIdeal.Gen.facts, Cert.OutProjReferenceIdeal.Gen.facts,
   frame_kernel, frame_kernelIdeal, frame_reference,
   fun m ρ _ => Cert.Mlp.Gen.frame m ρ, fun m ρ _ => Cert.MlpIdeal.Gen.frame m ρ, frame_mlpReference,
   fun m ρ _ => Cert.OutProj.Gen.frame m ρ, fun m ρ _ => Cert.OutProjIdeal.Gen.frame m ρ, frame_outProjReference,
   preserves, algebraic, trivial, algebraic_mlp, trivial, algebraic_outProj⟩

end Cert.Proof
